-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_c" .f32 0x3B2AAAAB#32 ((1 / 384 : ℝ) : EReal)
  ∧ IdealRules.named_const.Statement Cert.KernelIdeal.κ "inv_hw" .f32 0x39A72F05#32 ((1 / 3136 : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8x384x56x56 : Shape := ⟨4, ![8, 384, 56, 56]⟩
abbrev S8x224x224 : Shape := ⟨3, ![8, 224, 224]⟩
abbrev S1x3x7x7 : Shape := ⟨4, ![1, 3, 7, 7]⟩
abbrev S384 : Shape := ⟨1, ![384]⟩
abbrev S_ : Shape := ⟨0, ![]⟩

class Facts : Prop where
  bcast_S_S8x384x56x56 : S_.BroadcastsInDim S8x384x56x56 (![] : Fin 0 → Fin S8x384x56x56.rank)
  bcast_S_S8x224x224 : S_.BroadcastsInDim S8x224x224 (![] : Fin 0 → Fin S8x224x224.rank)
  bcast_S_S384 : S_.BroadcastsInDim S384 (![] : Fin 0 → Fin S384.rank)

variable [Facts]

def fn {F : FTy → Type} [FloatOps F] (main_arg0 : FVec F S8x384x56x56 .f32) (main_arg1 : FVec F S8x224x224 .f32) (main_arg2 : FVec F S1x3x7x7 .f32) (main_arg3 : FVec F S384 .f32) (main_arg4 : FVec F S384 .f32) : IVec S8x384x56x56 1 × IVec S8x224x224 1 × IVec S384 1 :=
  let main_v0 : FVec F S8x384x56x56 .f32 := Host.absf main_arg0
  let main_cst : FVec F S_ .f32 := constant S_ .f32 0x7F800000#32
  let main_v1 : FVec F S8x384x56x56 .f32 := broadcastInDim S8x384x56x56 ![] bcast_S_S8x384x56x56 main_cst
  let main_v2 : IVec S8x384x56x56 1 := cmpf .olt main_v0 main_v1
  let main_cst_0 : FVec F S_ .f32 := constant S_ .f32 0x00000000#32
  let main_v3 : FVec F S8x224x224 .f32 := broadcastInDim S8x224x224 ![] bcast_S_S8x224x224 main_cst_0
  let main_v4 : IVec S8x224x224 1 := cmpf .oge main_arg1 main_v3
  let main_cst_1 : FVec F S_ .f32 := constant S_ .f32 0x7F800000#32
  let main_v5 : FVec F S8x224x224 .f32 := broadcastInDim S8x224x224 ![] bcast_S_S8x224x224 main_cst_1
  let main_v6 : IVec S8x224x224 1 := cmpf .olt main_arg1 main_v5
  let main_v7 : IVec S8x224x224 1 := andi main_v4 main_v6
  let main_v8 : FVec F S384 .f32 := Host.absf main_arg3
  let main_cst_2 : FVec F S_ .f32 := constant S_ .f32 0x7F800000#32
  let main_v9 : FVec F S384 .f32 := broadcastInDim S384 ![] bcast_S_S384 main_cst_2
  let main_v10 : IVec S384 1 := cmpf .olt main_v8 main_v9
  (main_v2, main_v7, main_v10)
-- ==== Kernel.lean ====
abbrev S8x384x56x56 : Shape := ⟨4, ![8, 384, 56, 56]⟩
abbrev S8x224x224 : Shape := ⟨3, ![8, 224, 224]⟩
abbrev S1x3x7x7 : Shape := ⟨4, ![1, 3, 7, 7]⟩
abbrev S384 : Shape := ⟨1, ![384]⟩
abbrev S56x224 : Shape := ⟨2, ![56, 224]⟩
abbrev S224x56 : Shape := ⟨2, ![224, 56]⟩
abbrev S7x56x56 : Shape := ⟨3, ![7, 56, 56]⟩
abbrev S_ : Shape := ⟨0, ![]⟩
abbrev S384x1 : Shape := ⟨2, ![384, 1]⟩
abbrev S8x384x3136 : Shape := ⟨3, ![8, 384, 3136]⟩
abbrev S3x7x7 : Shape := ⟨3, ![3, 7, 7]⟩
abbrev S56x56x3x7 : Shape := ⟨4, ![56, 56, 3, 7]⟩
abbrev S7x3x56x56 : Shape := ⟨4, ![7, 3, 56, 56]⟩
abbrev S7x168x56 : Shape := ⟨3, ![7, 168, 56]⟩
abbrev S1x224x224 : Shape := ⟨3, ![1, 224, 224]⟩
abbrev S1x384x3136 : Shape := ⟨3, ![1, 384, 3136]⟩
abbrev S224x224 : Shape := ⟨2, ![224, 224]⟩
abbrev S56x56 : Shape := ⟨2, ![56, 56]⟩
abbrev S384x3136 : Shape := ⟨2, ![384, 3136]⟩
abbrev S1x384 : Shape := ⟨2, ![1, 384]⟩
abbrev S1x3136 : Shape := ⟨2, ![1, 3136]⟩
abbrev S3136 : Shape := ⟨1, ![3136]⟩
abbrev S1x56 : Shape := ⟨2, ![1, 56]⟩
abbrev S56x168 : Shape := ⟨2, ![56, 168]⟩
abbrev S1x168x56 : Shape := ⟨3, ![1, 168, 56]⟩
abbrev S168x56 : Shape := ⟨2, ![168, 56]⟩
abbrev S3x56 : Shape := ⟨2, ![3, 56]⟩
abbrev S53x56 : Shape := ⟨2, ![53, 56]⟩
abbrev S2x56 : Shape := ⟨2, ![2, 56]⟩
abbrev S54x56 : Shape := ⟨2, ![54, 56]⟩
abbrev S55x56 : Shape := ⟨2, ![55, 56]⟩
abbrev S1x64x3136 : Shape := ⟨3, ![1, 64, 3136]⟩
abbrev S64x3136 : Shape := ⟨2, ![64, 3136]⟩
abbrev S64 : Shape := ⟨1, ![64]⟩
abbrev S64x1 : Shape := ⟨2, ![64, 1]⟩

abbrev nBuf : Space → Nat
  | .hbm => 22
  | .vmem => 11
  | .smem => 0
  | _ => 0

abbrev bufTy : (tb : Table) → Fin (tcTables nBuf tb) → BufTy
  | .hbm, ⟨0, _⟩ => ⟨S8x384x56x56, .f32⟩
  | .hbm, ⟨1, _⟩ => ⟨S8x224x224, .f32⟩
  | .hbm, ⟨2, _⟩ => ⟨S1x3x7x7, .f32⟩
  | .hbm, ⟨3, _⟩ => ⟨S384, .f32⟩
  | .hbm, ⟨4, _⟩ => ⟨S384, .f32⟩
  | .hbm, ⟨5, _⟩ => ⟨S56x224, .f32⟩
  | .hbm, ⟨6, _⟩ => ⟨S224x56, .f32⟩
  | .hbm, ⟨7, _⟩ => ⟨S7x56x56, .f32⟩
  | .hbm, ⟨8, _⟩ => ⟨S_, .f32⟩
  | .hbm, ⟨9, _⟩ => ⟨S384, .f32⟩
  | .hbm, ⟨10, _⟩ => ⟨S384, .f32⟩
  | .hbm, ⟨11, _⟩ => ⟨S384x1, .f32⟩
  | .hbm, ⟨12, _⟩ => ⟨S_, .f32⟩
  | .hbm, ⟨13, _⟩ => ⟨S384, .f32⟩
  | .hbm, ⟨14, _⟩ => ⟨S384, .f32⟩
  | .hbm, ⟨15, _⟩ => ⟨S384x1, .f32⟩
  | .hbm, ⟨16, _⟩ => ⟨S8x384x3136, .f32⟩
  | .hbm, ⟨17, _⟩ => ⟨S3x7x7, .f32⟩
  | .hbm, ⟨18, _⟩ => ⟨S56x56x3x7, .f32⟩
  | .hbm, ⟨19, _⟩ => ⟨S7x3x56x56, .f32⟩
  | .hbm, ⟨20, _⟩ => ⟨S7x168x56, .f32⟩
  | .hbm, ⟨21, _⟩ => ⟨S8x384x3136, .f32⟩
  | .local _ .vmem, ⟨0, _⟩ => ⟨S1x224x224, .f32⟩
  | .local _ .vmem, ⟨1, _⟩ => ⟨S1x224x224, .f32⟩
  | .local _ .vmem, ⟨2, _⟩ => ⟨S1x384x3136, .f32⟩
  | .local _ .vmem, ⟨3, _⟩ => ⟨S1x384x3136, .f32⟩
  | .local _ .vmem, ⟨4, _⟩ => ⟨S56x224, .f32⟩
  | .local _ .vmem, ⟨5, _⟩ => ⟨S224x56, .f32⟩
  | .local _ .vmem, ⟨6, _⟩ => ⟨S384x1, .f32⟩
  | .local _ .vmem, ⟨7, _⟩ => ⟨S384x1, .f32⟩
  | .local _ .vmem, ⟨8, _⟩ => ⟨S7x168x56, .f32⟩
  | .local _ .vmem, ⟨9, _⟩ => ⟨S1x384x3136, .f32⟩
  | .local _ .vmem, ⟨10, _⟩ => ⟨S1x384x3136, .f32⟩
  | _, _ => ⟨S8x384x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_cst_2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_3 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x384x3136 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S56x224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S224x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S7x168x56 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x384x3136 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "inv_c" => some ((1 / 384 : ℝ) : EReal)
  | "inv_hw" => some ((1 / 3136 : ℝ) : EReal)
  | _ => none
-- ==== ReferenceIdeal.lean ====
abbrev S8x384x56x56 : Shape := ⟨4, ![8, 384, 56, 56]⟩
abbrev S8x224x224 : Shape := ⟨3, ![8, 224, 224]⟩
abbrev S1x3x7x7 : Shape := ⟨4, ![1, 3, 7, 7]⟩
abbrev S384 : Shape := ⟨1, ![384]⟩
abbrev S224x56 : Shape := ⟨2, ![224, 56]⟩
abbrev S56x8x224 : Shape := ⟨3, ![56, 8, 224]⟩
abbrev S56x8x56 : Shape := ⟨3, ![56, 8, 56]⟩
abbrev S8x56x56 : Shape := ⟨3, ![8, 56, 56]⟩
abbrev S8x1x56x56 : Shape := ⟨4, ![8, 1, 56, 56]⟩
abbrev S_ : Shape := ⟨0, ![]⟩
abbrev S8x3x56x56 : Shape := ⟨4, ![8, 3, 56, 56]⟩
abbrev S8x3x62x62 : Shape := ⟨4, ![8, 3, 62, 62]⟩
abbrev S8x3x62x56 : Shape := ⟨4, ![8, 3, 62, 56]⟩
abbrev S8x3x1x62x56 : Shape := ⟨5, ![8, 3, 1, 62, 56]⟩
abbrev S8x3x7x62x56 : Shape := ⟨5, ![8, 3, 7, 62, 56]⟩
abbrev S8x3x7x56x56 : Shape := ⟨5, ![8, 3, 7, 56, 56]⟩
abbrev S8x3x1x7x56x56 : Shape := ⟨6, ![8, 3, 1, 7, 56, 56]⟩
abbrev S8x3x7x7x56x56 : Shape := ⟨6, ![8, 3, 7, 7, 56, 56]⟩
abbrev S3x7x7 : Shape := ⟨3, ![3, 7, 7]⟩
abbrev S8x384 : Shape := ⟨2, ![8, 384]⟩
abbrev S8x384x1x1 : Shape := ⟨4, ![8, 384, 1, 1]⟩
abbrev S1x384x1x1 : Shape := ⟨4, ![1, 384, 1, 1]⟩
abbrev S8x384x3136 : Shape := ⟨3, ![8, 384, 3136]⟩

abbrev nBuf : Space → Nat
  | .hbm => 135
  | .vmem => 0
  | .smem => 0
  | _ => 0

abbrev hbmTy0_0 (i : Nat) : BufTy := match i % 128 with
  | 0 => ⟨S8x384x56x56, .f32⟩
  | 1 => ⟨S8x224x224, .f32⟩
  | 2 => ⟨S1x3x7x7, .f32⟩
  | 3 => ⟨S384, .f32⟩
  | 4 => ⟨S384, .f32⟩
  | 5 => ⟨S224x56, .f32⟩
  | 6 => ⟨S224x56, .f32⟩
  | 7 => ⟨S56x8x224, .f32⟩
  | 8 => ⟨S56x8x56, .f32⟩
  | 9 => ⟨S8x56x56, .f32⟩
  | 10 => ⟨S8x1x56x56, .f32⟩
  | 11 => ⟨S8x384x56x56, .f32⟩
  | 12 => ⟨S8x384x56x56, .f32⟩
  | 13 => ⟨S_, .f32⟩
  | 14 => ⟨S8x56x56, .f32⟩
  | 15 => ⟨S8x1x56x56, .f32⟩
  | 16 => ⟨S_, .f32⟩
  | 17 => ⟨S8x1x56x56, .f32⟩
  | 18 => ⟨S8x1x56x56, .f32⟩
  | 19 => ⟨S_, .f32⟩
  | 20 => ⟨S8x56x56, .f32⟩
  | 21 => ⟨S8x1x56x56, .f32⟩
  | 22 => ⟨S8x3x56x56, .f32⟩
  | 23 => ⟨S_, .i32⟩
  | 24 => ⟨S_, .f32⟩
  | 25 => ⟨S8x3x62x62, .f32⟩
  | 26 => ⟨S8x3x62x56, .f32⟩
  | 27 => ⟨S8x3x62x56, .f32⟩
  | 28 => ⟨S8x3x62x56, .f32⟩
  | 29 => ⟨S8x3x62x56, .f32⟩
  | 30 => ⟨S8x3x62x56, .f32⟩
  | 31 => ⟨S8x3x62x56, .f32⟩
  | 32 => ⟨S8x3x62x56, .f32⟩
  | 33 => ⟨S8x3x1x62x56, .f32⟩
  | 34 => ⟨S8x3x1x62x56, .f32⟩
  | 35 => ⟨S8x3x1x62x56, .f32⟩
  | 36 => ⟨S8x3x1x62x56, .f32⟩
  | 37 => ⟨S8x3x1x62x56, .f32⟩
  | 38 => ⟨S8x3x1x62x56, .f32⟩
  | 39 => ⟨S8x3x1x62x56, .f32⟩
  | 40 => ⟨S8x3x7x62x56, .f32⟩
  | 41 => ⟨S8x3x7x56x56, .f32⟩
  | 42 => ⟨S8x3x7x56x56, .f32⟩
  | 43 => ⟨S8x3x7x56x56, .f32⟩
  | 44 => ⟨S8x3x7x56x56, .f32⟩
  | 45 => ⟨S8x3x7x56x56, .f32⟩
  | 46 => ⟨S8x3x7x56x56, .f32⟩
  | 47 => ⟨S8x3x7x56x56, .f32⟩
  | 48 => ⟨S8x3x1x7x56x56, .f32⟩
  | 49 => ⟨S8x3x1x7x56x56, .f32⟩
  | 50 => ⟨S8x3x1x7x56x56, .f32⟩
  | 51 => ⟨S8x3x1x7x56x56, .f32⟩
  | 52 => ⟨S8x3x1x7x56x56, .f32⟩
  | 53 => ⟨S8x3x1x7x56x56, .f32⟩
  | 54 => ⟨S8x3x1x7x56x56, .f32⟩
  | 55 => ⟨S8x3x7x7x56x56, .f32⟩
  | 56 => ⟨S3x7x7, .f32⟩
  | 57 => ⟨S8x56x56, .f32⟩
  | 58 => ⟨S8x1x56x56, .f32⟩
  | 59 => ⟨S8x1x56x56, .f32⟩
  | 60 => ⟨S8x1x56x56, .f32⟩
  | 61 => ⟨S_, .f32⟩
  | 62 => ⟨S8x1x56x56, .f32⟩
  | 63 => ⟨S8x1x56x56, .f32⟩
  | 64 => ⟨S_, .f32⟩
  | 65 => ⟨S8x1x56x56, .f32⟩
  | 66 => ⟨S8x1x56x56, .f32⟩
  | 67 => ⟨S8x384x56x56, .f32⟩
  | 68 => ⟨S8x384x56x56, .f32⟩
  | 69 => ⟨S_, .f32⟩
  | 70 => ⟨S8x384, .f32⟩
  | 71 => ⟨S8x384x1x1, .f32⟩
  | 72 => ⟨S_, .f32⟩
  | 73 => ⟨S8x384x1x1, .f32⟩
  | 74 => ⟨S8x384x1x1, .f32⟩
  | 75 => ⟨S_, .i32⟩
  | 76 => ⟨S_, .f32⟩
  | 77 => ⟨S8x384, .f32⟩
  | 78 => ⟨S8x384x1x1, .f32⟩
  | 79 => ⟨S_, .f32⟩
  | 80 => ⟨S8x384x1x1, .f32⟩
  | 81 => ⟨S8x384x1x1, .f32⟩
  | 82 => ⟨S8x384x56x56, .f32⟩
  | 83 => ⟨S8x384x56x56, .f32⟩
  | 84 => ⟨S8x384x56x56, .f32⟩
  | 85 => ⟨S_, .f32⟩
  | 86 => ⟨S_, .f32⟩
  | 87 => ⟨S_, .f32⟩
  | 88 => ⟨S_, .f32⟩
  | 89 => ⟨S8x384, .f32⟩
  | 90 => ⟨S8x384x1x1, .f32⟩
  | 91 => ⟨S8x384x1x1, .f32⟩
  | 92 => ⟨S8x384x1x1, .f32⟩
  | 93 => ⟨S_, .f32⟩
  | 94 => ⟨S_, .i1⟩
  | 95 => ⟨S_, .f32⟩
  | 96 => ⟨S_, .f32⟩
  | 97 => ⟨S8x384x1x1, .f32⟩
  | 98 => ⟨S8x384x1x1, .f32⟩
  | 99 => ⟨S8x384x56x56, .f32⟩
  | 100 => ⟨S8x384x56x56, .f32⟩
  | 101 => ⟨S_, .f32⟩
  | 102 => ⟨S8x384x1x1, .f32⟩
  | 103 => ⟨S8x384x1x1, .f32⟩
  | 104 => ⟨S8x384x1x1, .f32⟩
  | 105 => ⟨S8x384x56x56, .f32⟩
  | 106 => ⟨S8x384x56x56, .f32⟩
  | 107 => ⟨S1x384x1x1, .f32⟩
  | 108 => ⟨S8x384x56x56, .f32⟩
  | 109 => ⟨S8x384x56x56, .f32⟩
  | 110 => ⟨S1x384x1x1, .f32⟩
  | 111 => ⟨S8x384x56x56, .f32⟩
  | 112 => ⟨S8x384x56x56, .f32⟩
  | 113 => ⟨S8x384x56x56, .f32⟩
  | 114 => ⟨S8x384x56x56, .f32⟩
  | 115 => ⟨S8x384x56x56, .f32⟩
  | 116 => ⟨S8x384x56x56, .f32⟩
  | 117 => ⟨S8x384x56x56, .f32⟩
  | 118 => ⟨S8x384x56x56, .f32⟩
  | 119 => ⟨S8x384x56x56, .f32⟩
  | 120 => ⟨S8x384x56x56, .f32⟩
  | 121 => ⟨S8x384x56x56, .f32⟩
  | 122 => ⟨S8x384x56x56, .f32⟩
  | 123 => ⟨S8x384x56x56, .f32⟩
  | 124 => ⟨S8x384x56x56, .f32⟩
  | 125 => ⟨S8x384x56x56, .f32⟩
  | 126 => ⟨S8x384x56x56, .f32⟩
  | 127 => ⟨S8x384x56x56, .f32⟩
  | _ => ⟨S8x384x56x56, .f32⟩

abbrev hbmTy0_1 (i : Nat) : BufTy := match i % 128 with
  | 0 => ⟨S8x384x56x56, .f32⟩
  | 1 => ⟨S8x384x56x56, .f32⟩
  | 2 => ⟨S8x384x56x56, .f32⟩
  | 3 => ⟨S_, .f32⟩
  | 4 => ⟨S8x384x56x56, .f32⟩
  | 5 => ⟨S8x384x56x56, .f32⟩
  | 6 => ⟨S8x384x3136, .f32⟩
  | _ => ⟨S8x384x56x56, .f32⟩

abbrev hbmTy (i : Nat) : BufTy := match i / 128 with
  | 0 => hbmTy0_0 i
  | 1 => hbmTy0_1 i
  | _ => ⟨S8x384x56x56, .f32⟩

abbrev bufTy : (tb : Table) → Fin (tcTables nBuf tb) → BufTy
  | .hbm, ⟨i, _⟩ => hbmTy i
  | _, _ => ⟨S8x384x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_call0_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_4 : Ref sig .tc := ⟨.hbm, 61, rfl⟩
abbrev main_v49 : Ref sig .tc := ⟨.hbm, 62, rfl⟩
abbrev main_v50 : Ref sig .tc := ⟨.hbm, 63, rfl⟩
abbrev main_cst_5 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_c_8 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_cst_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_v7 : Ref sig .tc := ⟨.hbm, 85, rfl⟩
abbrev main_call1_cst_1 : Ref sig .tc := ⟨.hbm, 86, rfl⟩
abbrev main_call1_v8 : Ref sig .tc := ⟨.hbm, 87, rfl⟩
abbrev main_call1_cst_2 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_v12 : Ref sig .tc := ⟨.hbm, 92, rfl⟩
abbrev main_call1_cst_3 : Ref sig .tc := ⟨.hbm, 93, rfl⟩
abbrev main_call1_v13 : Ref sig .tc := ⟨.hbm, 94, rfl⟩
abbrev main_call1_cst_4 : Ref sig .tc := ⟨.hbm, 95, rfl⟩
abbrev main_call1_call0_v0 : Ref sig .tc := ⟨.hbm, 96, rfl⟩
abbrev main_call1_call0_v1 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_9 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_call2_cst : Ref sig .tc := ⟨.hbm, 131, rfl⟩
abbrev main_call2_v0 : Ref sig .tc := ⟨.hbm, 132, rfl⟩
abbrev main_v91 : Ref sig .tc := ⟨.hbm, 133, rfl⟩
abbrev main_v92 : Ref sig .tc := ⟨.hbm, 134, rfl⟩

abbrev nD : Nat := 1
abbrev τ : Topo := Topo.v7x

variable {F : FTy → Type} [FloatOps F]
-- ==== Proof.KernelBlock.lean ====
/-
  What one grid point of the kernel writes, from its blocks, read at an entry.
-/
module

public import proofs.«01_k».proof.Proof.Gen.KernelIdeal.Frame
public import Idealize.ShloMosaic.Lib.Pointwise
public import Idealize.ShloMosaic.Lib.Pipeline.Value
public import Idealize.ShloMosaic.Lib.Pipeline.ValueKit.Tiles
public import Idealize.ShloMosaic.Lib.Tactic
public import Idealize.ShloMosaic.Lib.Tactic.CleanTypes

@[expose] public section

set_option maxRecDepth 16384

noncomputable section

namespace Cert.KernelBlock

open Idealize.ShloMosaic Cert.KernelIdeal Cert.KernelIdeal.Gen

variable (x0 : Vec Ideal S1x224x224 .f32) (x1 : Vec Ideal S1x384x3136 .f32) (x2 : Vec Ideal S56x224 .f32)
  (x3 : Vec Ideal S224x56 .f32) (x4 : Vec Ideal S384x1 .f32) (x5 : Vec Ideal S384x1 .f32) (x6 : Vec Ideal S7x168x56 .f32)

/-- The shrunk mask of the block. -/
theorem mask_apply (v0 : Vec Ideal S1x224x224 .f32) (v2 : Vec Ideal S56x224 .f32) (v4 : Vec Ideal S224x56 .f32) (k l : Fin 56) :
    k0_pay1 v0 v2 v4 (ix2 k l)
      = ∑ j : Fin 224, (∑ i : Fin 224, v2 (ix2 k i) * v0 (ix3 0 i j)) * v4 (ix2 j l) := by
  unfold k0_pay1
  clean_types
  pointwise

/-- The row of channel means, before the mask. -/
theorem chan_mean (v6 : Vec Ideal S1x384x3136 .f32) (s : Fin 3136) :
    k0_pay3 v6 (ix2 0 s) = ∑ c : Fin 384, ((1 / 384 : ℝ) : EReal) * v6 (ix3 0 c s) := by
  unfold k0_pay3 k0_pay2
  clean_types
  pointwise
  simp only [show (Named.named (F := Ideal) κ "inv_c" (φ := .f32) 0x3B2AAAAB#32 : EReal) = ((1 / 384 : ℝ) : EReal) from
    IdealRules.named_const.ideal_named_scalar _ _ _ _ rfl]

/-- The row of channel maxima, before the mask. -/
theorem chan_max (v6 : Vec Ideal S1x384x3136 .f32) (s : Fin 3136) :
    k0_pay4 v6 (ix2 0 s) = Finset.fold max (Ideal.ofBits .f32 0xFF800000#32) (fun c : Fin 384 => v6 (ix3 0 c s)) Finset.univ := by
  unfold k0_pay4 k0_pay2
  clean_types
  pointwise

/-- The row of channel means laid out as a square, times the mask. -/
theorem avg_apply (v5 : FVec Ideal S56x56 .f32) (v6 : Vec Ideal S1x384x3136 .f32) (k l : Fin 56) (s : Fin 3136) (hs : (s : Nat) = k * 56 + l) :
    k0_pay37 v5 (k0_pay3 v6) (k0_pay5 v6) (k0_pay6 v6) (k0_pay7 v6) (k0_pay8 v6) (k0_pay9 v6) (k0_pay10 v6) (k0_pay11 v6) (k0_pay12 v6) (k0_pay13 v6) (k0_pay14 v6) (k0_pay15 v6) (k0_pay16 v6) (k0_pay17 v6) (k0_pay18 v6) (k0_pay19 v6) (k0_pay20 v6) (k0_pay21 v6) (k0_pay22 v6) (k0_pay23 v6) (k0_pay24 v6) (k0_pay25 v6) (k0_pay26 v6) (k0_pay27 v6) (k0_pay28 v6) (k0_pay29 v6) (k0_pay30 v6) (k0_pay31 v6) (k0_pay32 v6) (k0_pay33 v6) (k0_pay34 v6) (k0_pay35 v6) (k0_pay36 v6) (ix2 k l) = k0_pay3 v6 (ix2 0 s) * v5 (ix2 k l) := by
  generalize hv : k0_pay3 v6 = v9
  unfold k0_pay37 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36
  rw [hv]
  clean_types
  rw [mulf_apply]
  show _ * _ = _ * _
  congr 1
  generalize hq : ix2 k l = q
  concat_tiles q h
  all_goals
    subst hq
    refine extractStridedSlice_apply _ _ _ _ _ (fun a => ?_)
    have hk := h
    have hl := h1
    simp only [ix2] at hk hl
    fin_cases a
    · simp [h0]
    · simp [hl, hs, hk]

/-- Three squares side by side, read at an entry. -/
theorem three_apply (a b c : FVec Ideal S56x56 .f32) (k : Fin 56) (j : Fin 168) :
    concatenate S56x168 1 [⟨S56x56, a⟩, ⟨S56x56, b⟩, ⟨S56x56, c⟩] concatenates_S56x56_S56x56_S56x56_S56x168_d1 (ix2 k j)
      = if h : (j : Nat) < 56 then a (ix2 k ⟨j, h⟩) else if h' : (j : Nat) - 56 < 56 then b (ix2 k ⟨(j : Nat) - 56, h'⟩)
        else c (ix2 k ⟨(j : Nat) - 56 - 56, by omega⟩) := by
  pointwise

/-- The mean plane, the maximum plane and the mask side by side, read at an entry. -/
theorem icat_apply (v5 v69 : FVec Ideal S56x56 .f32) (v11 : FVec Ideal S1x3136 .f32) (k : Fin 56) (j : Fin 168) :
    k0_pay72 v5 v11 v69
    (k0_pay38 v11) (k0_pay39 v11) (k0_pay40 v11) (k0_pay41 v11) (k0_pay42 v11) (k0_pay43 v11) (k0_pay44 v11) (k0_pay45 v11) (k0_pay46 v11) (k0_pay47 v11) (k0_pay48 v11) (k0_pay49 v11) (k0_pay50 v11) (k0_pay51 v11) (k0_pay52 v11) (k0_pay53 v11) (k0_pay54 v11) (k0_pay55 v11) (k0_pay56 v11) (k0_pay57 v11) (k0_pay58 v11) (k0_pay59 v11) (k0_pay60 v11) (k0_pay61 v11) (k0_pay62 v11) (k0_pay63 v11) (k0_pay64 v11) (k0_pay65 v11) (k0_pay66 v11) (k0_pay67 v11) (k0_pay68 v11) (k0_pay69 v11) (k0_pay70 v11) (k0_pay71 v11) (ix2 k j)
      = if h : (j : Nat) < 56 then v69 (ix2 k ⟨j, h⟩)
        else if h' : (j : Nat) - 56 < 56 then v11 (ix2 0 ⟨k * 56 + ((j : Nat) - 56), by omega⟩) * v5 (ix2 k ⟨(j : Nat) - 56, h'⟩)
        else v5 (ix2 k ⟨(j : Nat) - 56 - 56, by omega⟩) := by
  unfold k0_pay72 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71
  clean_types
  rw [three_apply]
  split
  · rfl
  split
  swap
  · rfl
  rename_i hj0 hj
  rw [mulf_apply]
  show _ * _ = _ * _
  congr 1
  generalize hq : ix2 k (⟨(j : Nat) - 56, hj⟩ : Fin 56) = q
  concat_tiles q h
  all_goals
    subst hq
    refine extractStridedSlice_apply _ _ _ _ _ (fun a => ?_)
    have hk := h
    have hl := h1
    simp only [ix2] at hk hl
    fin_cases a
    · simp [h0]
    · simp [hl, hk]

/-- One tap row's part of the convolution: row `k + d - 3` of the planes against the `d`-th bands, if it is a row. -/
def tapRow (icat : FVec Ideal S56x168 .f32) (band : Vec Ideal S1x168x56 .f32) (d : Nat) (k l : Fin 56) : EReal :=
  if h : 3 ≤ (k : Nat) + d ∧ (k : Nat) + d - 3 < 56 then
    ∑ j : Fin 168, icat (ix2 ⟨(k : Nat) + d - 3, h.2⟩ j) * band (ix3 0 j l) else 0

/-- A row moved down past `e` rows of zeros, with `d + e = 3`. -/
theorem tapRow_down (icat : FVec Ideal S56x168 .f32) (band : Vec Ideal S1x168x56 .f32) (d e : Nat) (hde : d + e = 3) (k l : Fin 56) :
    (if h : (k : Nat) < e then (0 : EReal) else ∑ j : Fin 168, icat (ix2 ⟨(k : Nat) - e, by omega⟩ j) * band (ix3 0 j l))
      = tapRow icat band d k l := by
  unfold tapRow
  by_cases h : (k : Nat) < e
  · rw [dif_pos h, dif_neg (by omega)]
  · rw [dif_neg h, dif_pos (by omega)]
    have hk : (k : Nat) + d - 3 = k - e := by omega
    simp only [hk]

/-- A row moved up by `e` rows, with `d = 3 + e`; the last `e` rows are zeros. -/
theorem tapRow_up (icat : FVec Ideal S56x168 .f32) (band : Vec Ideal S1x168x56 .f32) (d e n : Nat) (hde : d = 3 + e) (hn : n + e = 56) (k l : Fin 56) :
    (if h : (k : Nat) < n then ∑ j : Fin 168, icat (ix2 ⟨e + (k : Nat), by omega⟩ j) * band (ix3 0 j l) else (0 : EReal))
      = tapRow icat band d k l := by
  unfold tapRow
  by_cases h : (k : Nat) < n
  · rw [dif_pos h, dif_pos (by omega)]
    have hk : (k : Nat) + d - 3 = e + k := by omega
    simp only [hk]
  · rw [dif_neg h, dif_neg (by omega)]

/-- The row that stays where it is. -/
theorem tapRow_mid (icat : FVec Ideal S56x168 .f32) (band : Vec Ideal S1x168x56 .f32) (k l : Fin 56) :
    ∑ j : Fin 168, icat (ix2 k j) * band (ix3 0 j l) = tapRow icat band 3 k l := by
  unfold tapRow
  rw [dif_pos (by omega)]
  simp only [Nat.add_sub_cancel]

/-- The first two tap rows. -/
theorem first_taps (v5 v69 : FVec Ideal S56x56 .f32) (v11 : FVec Ideal S1x3136 .f32) (b0 b1 : Vec Ideal S1x168x56 .f32) (v70 v71 v72 v73 v74 v75 v76 v77 v78 v79 v80 v81 v82 v83 v84 v85 v86 v87 v88 v89 v90 v91 v92 v93 v94 v95 v96 v97 v98 v99 v100 v101 v102 v103 : FVec Ideal S1x56 .f32)
    (k l : Fin 56) :
    k0_pay73 v5 v11 v69 v70 v71 v72 v73 v74 v75 v76 v77 v78 v79 v80 v81 v82 v83 v84 v85 v86 v87 v88 v89 v90 v91 v92 v93 v94 v95 v96 v97 v98 v99 v100 v101 v102 v103 b0 b1 (ix2 k l)
      = tapRow (k0_pay72 v5 v11 v69 v70 v71 v72 v73 v74 v75 v76 v77 v78 v79 v80 v81 v82 v83 v84 v85 v86 v87 v88 v89 v90 v91 v92 v93 v94 v95 v96 v97 v98 v99 v100 v101 v102 v103) b0 0 k l + tapRow (k0_pay72 v5 v11 v69 v70 v71 v72 v73 v74 v75 v76 v77 v78 v79 v80 v81 v82 v83 v84 v85 v86 v87 v88 v89 v90 v91 v92 v93 v94 v95 v96 v97 v98 v99 v100 v101 v102 v103) b1 1 k l := by
  unfold k0_pay73
  clean_types
  generalize k0_pay72 v5 v11 v69 v70 v71 v72 v73 v74 v75 v76 v77 v78 v79 v80 v81 v82 v83 v84 v85 v86 v87 v88 v89 v90 v91 v92 v93 v94 v95 v96 v97 v98 v99 v100 v101 v102 v103 = icat
  pointwise
  rw [tapRow_down icat b0 0 3 rfl, tapRow_down icat b1 1 2 rfl]

/-- The third tap row's products, before they are moved. -/
theorem third_tap (v5 v69 : FVec Ideal S56x56 .f32) (v11 : FVec Ideal S1x3136 .f32) (b2 : Vec Ideal S1x168x56 .f32) (v70 v71 v72 v73 v74 v75 v76 v77 v78 v79 v80 v81 v82 v83 v84 v85 v86 v87 v88 v89 v90 v91 v92 v93 v94 v95 v96 v97 v98 v99 v100 v101 v102 v103 : FVec Ideal S1x56 .f32)
    (k l : Fin 56) :
    k0_pay74 v5 v11 v69 v70 v71 v72 v73 v74 v75 v76 v77 v78 v79 v80 v81 v82 v83 v84 v85 v86 v87 v88 v89 v90 v91 v92 v93 v94 v95 v96 v97 v98 v99 v100 v101 v102 v103 b2 (ix2 k l) = ∑ j : Fin 168, k0_pay72 v5 v11 v69 v70 v71 v72 v73 v74 v75 v76 v77 v78 v79 v80 v81 v82 v83 v84 v85 v86 v87 v88 v89 v90 v91 v92 v93 v94 v95 v96 v97 v98 v99 v100 v101 v102 v103 (ix2 k j) * b2 (ix3 0 j l) := by
  unfold k0_pay74
  clean_types
  generalize k0_pay72 v5 v11 v69 v70 v71 v72 v73 v74 v75 v76 v77 v78 v79 v80 v81 v82 v83 v84 v85 v86 v87 v88 v89 v90 v91 v92 v93 v94 v95 v96 v97 v98 v99 v100 v101 v102 v103 = icat
  pointwise

/-- The gate of one pixel, from the tap rows added up so far and the last ones. -/
theorem gate_apply (v5 : FVec Ideal S56x56 .f32) (icat : FVec Ideal S56x168 .f32) (v143 v146 : FVec Ideal S56x56 .f32)
    (b2 b3 b4 b5 b6 : Vec Ideal S1x168x56 .f32) (k l : Fin 56) (h146 : ∀ k, v146 (ix2 k l) = ∑ j : Fin 168, icat (ix2 k j) * b2 (ix3 0 j l)) :
    k0_pay76 v5 icat v143 v146 k0_pay75 b3 b4 b5 b6 (ix2 k l)
     = v5 (ix2 k l) * Ideal.div 1 (1 + Ideal.exp (0 - (v143 (ix2 k l) + tapRow icat b2 2 k l + tapRow icat b3 3 k l
        + tapRow icat b4 4 k l + tapRow icat b5 5 k l + tapRow icat b6 6 k l))) := by
  unfold k0_pay76 k0_pay75
  clean_types
  pointwise
  simp only [h146]
  rw [tapRow_down icat b2 2 1 rfl, tapRow_mid, tapRow_up icat b4 4 1 55 rfl rfl, tapRow_up icat b5 5 2 54 rfl rfl,
    tapRow_up icat b6 6 3 53 rfl rfl]

/-- One row of a 56 x 56 array is a slice of it. -/
theorem slices_row (i : Fin 56) : S56x56.Slices ![(i : Nat), 0] S1x56 :=
  ⟨rfl, fun (a : Fin 2) => match a with
    | ⟨0, _⟩ => i.isLt
    | ⟨1, _⟩ => (by decide : 0 + 56 ≤ 56)⟩

/-- The 56 rows side by side: entry `56 k + l` of the long row is entry `(k, l)`. -/
theorem flat_apply (v183 : FVec Ideal S56x56 .f32) (k l : Fin 56) (s : Fin 3136) (hs : (s : Nat) = k * 56 + l) :
    k0_pay79 v183 (extractStridedSlice S1x56 ![0, 0] v183 slices_S56x56_o0_0_S1x56)
      (extractStridedSlice S1x56 ![1, 0] v183 slices_S56x56_o1_0_S1x56) (ix2 0 s) = v183 (ix2 k l) := by
  unfold k0_pay79
  refine (concatenate_ofFn_apply (t := S1x3136) (s₁ := S1x56) 1
    (fun i : Fin 56 => extractStridedSlice S1x56 ![(i : Nat), 0] v183 (slices_row i)) _ rfl 56 rfl (ix2 0 s) k
    (by show (s : Nat) / 56 = k; omega) (ix2 0 l) (by show (l : Nat) = s % 56; omega) (fun (b : Fin 2) hb => ?_)).trans ?_
  · match b, hb with
    | ⟨0, _⟩, _ => rfl
    | ⟨1, _⟩, hb => exact absurd rfl hb
  · exact extractStridedSlice_apply _ _ _ _ _ fun (a : Fin 2) => match a with
      | ⟨0, _⟩ => (Nat.add_zero _).symm
      | ⟨1, _⟩ => (Nat.zero_add _).symm

/-- The kernel's mean of a channel's 3136 values. -/
def rowMean (o : Fin 3136 → EReal) : EReal := (∑ s : Fin 3136, o s) * ((1 / 3136 : ℝ) : EReal)

/-- The kernel's factor of a channel: one over the standard deviation, times the scale. -/
def rowScale (o : Fin 3136 → EReal) (g : EReal) : EReal :=
  Ideal.rsqrt ((∑ s : Fin 3136, o s * o s) * ((1 / 3136 : ℝ) : EReal) - rowMean o * rowMean o
    + Ideal.ofBits .f32 0x3727C5AC#32) * g

/-- The kernel's value of a channel at a position. -/
def rowOut (o : Fin 3136 → EReal) (g b : EReal) (s : Fin 3136) : EReal :=
  max (o s * rowScale o g + (b - rowMean o * rowScale o g)) 0

/-- The named reciprocal of the number of pixels. -/
theorem inv_hw_value : (Named.named (F := Ideal) κ "inv_hw" (φ := .f32) 0x39A72F05#32 : EReal) = ((1 / 3136 : ℝ) : EReal) :=
  IdealRules.named_const.ideal_named_scalar _ _ _ _ rfl

/-- A chunk of 64 channels. -/
theorem chunk_apply (M : FVec Ideal S1x3136 .f32) (x : Vec Ideal S1x64x3136 .f32) (g b : Vec Ideal S64x1 .f32) (c : Fin 64) (s : Fin 3136) :
    k0_pay81 M (k0_pay80 x) g b (ix3 0 c s)
      = rowOut (fun s => x (ix3 0 c s) * M (ix2 0 s)) (g (ix2 c 0)) (b (ix2 c 0)) s := by
  unfold k0_pay81 k0_pay80
  clean_types
  pointwise
  simp only [inv_hw_value]
  rfl

/-- Chunk 1 is computed as chunk 0 is. -/
theorem chunk1 (M : FVec Ideal S1x3136 .f32) (x : Vec Ideal S1x64x3136 .f32) (g b : Vec Ideal S64x1 .f32) :
    k0_pay85 (k0_pay82 M x) (k0_pay83 M x) (k0_pay84 M x) g b = k0_pay81 M (k0_pay80 x) g b := rfl
/-- Chunk 2 is computed as chunk 0 is. -/
theorem chunk2 (M : FVec Ideal S1x3136 .f32) (x : Vec Ideal S1x64x3136 .f32) (g b : Vec Ideal S64x1 .f32) :
    k0_pay89 (k0_pay86 M x) (k0_pay87 M x) (k0_pay88 M x) (Scalar.ofBits .f32 0x3727C5AC#32) g b = k0_pay81 M (k0_pay80 x) g b := rfl
/-- Chunk 3 is computed as chunk 0 is. -/
theorem chunk3 (M : FVec Ideal S1x3136 .f32) (x : Vec Ideal S1x64x3136 .f32) (g b : Vec Ideal S64x1 .f32) :
    k0_pay93 (k0_pay90 M x) (k0_pay91 M x) (k0_pay92 M x g) b = k0_pay81 M (k0_pay80 x) g b := rfl
/-- Chunk 4 is computed as chunk 0 is. -/
theorem chunk4 (M : FVec Ideal S1x3136 .f32) (x : Vec Ideal S1x64x3136 .f32) (g b : Vec Ideal S64x1 .f32) :
    k0_pay95 (k0_pay94 M x g b) = k0_pay81 M (k0_pay80 x) g b := rfl
/-- Chunk 5 is computed as chunk 0 is. -/
theorem chunk5 (M : FVec Ideal S1x3136 .f32) (x : Vec Ideal S1x64x3136 .f32) (g b : Vec Ideal S64x1 .f32) :
    k0_pay96 M x g b = k0_pay81 M (k0_pay80 x) g b := rfl

/-- A chunk's load of the image: its channel `d` is channel `off + d` of the block. -/
theorem ld_image (off : Nat) (inb) (c : Fin 384) (d : Fin 64) (s : Fin 3136) (h : (c : Nat) = off + d) :
    View.ld x1 (Rect.unit (s := S1x384x3136) ![0, off, 0] S1x64x3136.size inb) (ix3 0 d s) = x1 (ix3 0 c s) :=
  View.ld_unit_apply_of _ _ _ _ _ _ fun (a : Fin 3) => match a with
    | ⟨0, _⟩ => rfl
    | ⟨1, _⟩ => h
    | ⟨2, _⟩ => (Nat.zero_add _).symm

/-- A chunk's load of a column: its entry `d` is entry `off + d` of the column. -/
theorem ld_column (v : Vec Ideal S384x1 .f32) (off : Nat) (inb) (c : Fin 384) (d : Fin 64) (h : (c : Nat) = off + d) :
    View.ld v (Rect.unit (s := S384x1) ![off, 0] S64x1.size inb) (ix2 d 0) = v (ix2 c 0) :=
  View.ld_unit_apply_of _ _ _ _ _ _ fun (a : Fin 2) => match a with
    | ⟨0, _⟩ => h
    | ⟨1, _⟩ => rfl

/-- A chunk at an index whose channel is channel `c` of the block. -/
theorem chunk_at (M : FVec Ideal S1x3136 .f32) (off : Nat) (inb) (inc) (x : S1x64x3136.Idx) (c : Fin 384) (s : Fin 3136)
    (hc : (c : Nat) = off + (x 1).val) (hs : (s : Nat) = (x 2).val) :
    k0_pay81 M (k0_pay80 (View.ld x1 (Rect.unit (s := S1x384x3136) ![0, off, 0] S1x64x3136.size inb)))
      (View.ld x4 (Rect.unit (s := S384x1) ![off, 0] S64x1.size inc))
      (View.ld x5 (Rect.unit (s := S384x1) ![off, 0] S64x1.size inc)) x
      = rowOut (fun s => x1 (ix3 0 c s) * M (ix2 0 s)) (x4 (ix2 c 0)) (x5 (ix2 c 0)) s := by
  obtain ⟨d, hd⟩ : ∃ d : Fin 64, d = x 1 := ⟨x 1, rfl⟩
  have hx : x = ix3 0 d s := funext fun (a : Fin 3) => match a with
    | ⟨0, _⟩ => Fin.ext (by have := (x 0).isLt; show (x 0).val = 0; change (x 0).val < 1 at this; omega)
    | ⟨1, _⟩ => hd.symm
    | ⟨2, _⟩ => Fin.ext hs.symm
  rw [← hd] at hc
  rw [hx, chunk_apply, ld_column x4 off inc c d hc, ld_column x5 off inc c d hc]
  simp only [fun s => ld_image x1 off inb c d s hc]

/-- The block's result: the chunks are the rows of one formula. -/
theorem out_apply (c : Fin 384) (s : Fin 3136) :
    out0_7 x0 x1 x2 x3 x4 x5 x6 (ix3 0 c s)
      = rowOut (fun s => x1 (ix3 0 c s) * k0_pay138 x0 x1 x2 x3 x4 x5 x6 (ix2 0 s)) (x4 (ix2 c 0)) (x5 (ix2 c 0)) s := by
  unfold out0_7
  generalize k0_pay138 x0 x1 x2 x3 x4 x5 x6 = M
  rw [chunk1, chunk2, chunk3, chunk4, chunk5]
  generalize hy : (ix3 0 c s : S1x384x3136.Idx) = y
  canon_tiles x h
  all_goals
    subst hy
    exact chunk_at x1 x4 x5 M _ _ _ x c s (by first | exact h1 | exact h1.trans (Nat.zero_add _).symm) h2

/-- The whole load of the block's image. -/
theorem ld_whole : View.ld x1 r0_3 = x1 := View.ld_unit_zero (by funext a; fin_cases a <;> rfl) _ _

/-- The block's planes side by side. -/
def sideBySide (k : Fin 56) (j : Fin 168) : EReal :=
  if h : (j : Nat) < 56 then
    (∑ c : Fin 384, ((1 / 384 : ℝ) : EReal) * x1 (ix3 0 c ⟨k * 56 + j, by omega⟩)) * k0_pay1 x0 x2 x3 (ix2 k ⟨j, h⟩)
  else if h' : (j : Nat) - 56 < 56 then
    Finset.fold max (Ideal.ofBits .f32 0xFF800000#32)
      (fun c : Fin 384 => x1 (ix3 0 c ⟨k * 56 + ((j : Nat) - 56), by omega⟩)) Finset.univ
      * k0_pay1 x0 x2 x3 (ix2 k ⟨(j : Nat) - 56, h'⟩)
  else k0_pay1 x0 x2 x3 (ix2 k ⟨(j : Nat) - 56 - 56, by omega⟩)

/-- Row `k + d - 3` of the planes against the bands of tap row `d`. -/
def tapTerm (k l : Fin 56) (d : Fin 7) : EReal :=
  if h : 3 ≤ (k : Nat) + d ∧ (k : Nat) + d - 3 < 56 then
    ∑ j : Fin 168, sideBySide x0 x1 x2 x3 ⟨(k : Nat) + d - 3, h.2⟩ j * x6 (ix3 d j l) else 0

/-- The mask used by the gate is the shrunk mask. -/
theorem mask_row : k0_pay97 x0 x1 x2 x3 x4 x5 x6 = k0_pay1 x0 x2 x3 := by
  unfold k0_pay97
  rw [View.ld_unit_zero (by funext a; fin_cases a <;> rfl), View.ld_unit_zero (by funext a; fin_cases a <;> rfl),
    View.ld_unit_zero (by funext a; fin_cases a <;> rfl)]

/-- The planes side by side, read at an entry. -/
theorem sideBySide_apply (k : Fin 56) (j : Fin 168) :
    k0_pay134 x0 x1 x2 x3 x4 x5 x6 (ix2 k j) = sideBySide x0 x1 x2 x3 k j := by
  have h98 : k0_pay98 x0 x1 x2 x3 x4 x5 x6 = k0_pay4 x1 := by unfold k0_pay98; rw [ld_whole]
  unfold k0_pay134 k0_pay100 k0_pay101 k0_pay102 k0_pay103 k0_pay104 k0_pay105 k0_pay106 k0_pay107 k0_pay108 k0_pay109 k0_pay110 k0_pay111 k0_pay112 k0_pay113 k0_pay114 k0_pay115 k0_pay116 k0_pay117 k0_pay118 k0_pay119 k0_pay120 k0_pay121 k0_pay122 k0_pay123 k0_pay124 k0_pay125 k0_pay126 k0_pay127 k0_pay128 k0_pay129 k0_pay130 k0_pay131 k0_pay132 k0_pay133
  rw [icat_apply, mask_row, h98]
  unfold k0_pay99 sideBySide
  rw [ld_whole, mask_row]
  by_cases h : (j : Nat) < 56
  · simp only [dif_pos h]
    rw [avg_apply _ _ k ⟨j, h⟩ ⟨k * 56 + j, by omega⟩ rfl, chan_mean]
  · simp only [dif_neg h, chan_max]

/-- A tap row's part, its bands loaded from the table of all seven. -/
theorem tapRow_ld (d : Fin 7) (inb) (k l : Fin 56) :
    tapRow (k0_pay134 x0 x1 x2 x3 x4 x5 x6) (View.ld x6 (Rect.unit (s := S7x168x56) ![(d : Nat), 0, 0] S1x168x56.size inb)) d k l
      = tapTerm x0 x1 x2 x3 x6 k l d := by
  have hld : ∀ j : Fin 168, View.ld x6 (Rect.unit (s := S7x168x56) ![(d : Nat), 0, 0] S1x168x56.size inb) (ix3 0 j l) = x6 (ix3 d j l) :=
    fun j => View.ld_unit_apply_of _ _ _ _ _ _ fun (a : Fin 3) => match a with
      | ⟨0, _⟩ => rfl
      | ⟨1, _⟩ => (Nat.zero_add _).symm
      | ⟨2, _⟩ => (Nat.zero_add _).symm
  unfold tapRow tapTerm
  simp only [sideBySide_apply, hld]

/-- The row of mask times gate, read at the pixel of line `k` and column `l`. -/
theorem gate_row (k l : Fin 56) (s : Fin 3136) (hs : (s : Nat) = k * 56 + l) :
    k0_pay138 x0 x1 x2 x3 x4 x5 x6 (ix2 0 s)
      = k0_pay1 x0 x2 x3 (ix2 k l) * Ideal.div 1 (1 + Ideal.exp (0 - ∑ d : Fin 7, tapTerm x0 x1 x2 x3 x6 k l d)) := by
  unfold k0_pay138 k0_pay77 k0_pay78
  rw [flat_apply _ k l s hs]
  unfold k0_pay137
  rw [gate_apply (b2 := View.ld x6 r0_6) (h146 := fun k => by unfold k0_pay136; rw [third_tap]; rfl), mask_row]
  unfold k0_pay135
  rw [first_taps, Fin.sum_univ_seven]
  exact congrArg (fun a => k0_pay1 x0 x2 x3 (ix2 k l) * Ideal.div 1 (1 + Ideal.exp (0 - a)))
    (congrArg₂ (· + ·) (congrArg₂ (· + ·) (congrArg₂ (· + ·) (congrArg₂ (· + ·) (congrArg₂ (· + ·) (congrArg₂ (· + ·)
      (tapRow_ld x0 x1 x2 x3 x4 x5 x6 0 _ k l) (tapRow_ld x0 x1 x2 x3 x4 x5 x6 1 _ k l))
      (tapRow_ld x0 x1 x2 x3 x4 x5 x6 2 _ k l)) (tapRow_ld x0 x1 x2 x3 x4 x5 x6 3 _ k l))
      (tapRow_ld x0 x1 x2 x3 x4 x5 x6 4 _ k l)) (tapRow_ld x0 x1 x2 x3 x4 x5 x6 5 _ k l))
      (tapRow_ld x0 x1 x2 x3 x4 x5 x6 6 _ k l))

end Cert.KernelBlock

end
-- ==== Proof.TableForms.lean ====
/-
  Closed forms of the kernel's literal tables, and a check that goes through a stretch of a table entry by entry.
  Shrinking 224 lines to 56 weighs eight input lines around each output line; the first and the last output line
  have six, so their weights are larger.
-/
module

public import proofs.«01_k».proof.KernelIdeal

@[expose] public section

set_option maxRecDepth 16384

namespace Cert.Tables

open Idealize.ShloMosaic

/-- The weight's word at the `t`-th of the eight input lines around an inner output line: (1, 3, 5, 7, 7, 5, 3, 1) / 32. -/
def inner (t : Nat) : BitVec 32 := match t with
  | 0 => 0x3D000000#32
  | 1 => 0x3DC00000#32
  | 2 => 0x3E200000#32
  | 3 => 0x3E600000#32
  | 4 => 0x3E600000#32
  | 5 => 0x3E200000#32
  | 6 => 0x3DC00000#32
  | 7 => 0x3D000000#32
  | _ => 0x00000000#32

/-- The weight's word at the `t`-th input line around the first or the last output line: (1, 3, 5, 7, 7, 5, 3, 1) / 28, rounded. -/
def border (t : Nat) : BitVec 32 := match t with
  | 0 => 0x3D124925#32
  | 1 => 0x3DDB6DB7#32
  | 2 => 0x3E36DB6E#32
  | 3 => 0x3E800000#32
  | 4 => 0x3E800000#32
  | 5 => 0x3E36DB6E#32
  | 6 => 0x3DDB6DB7#32
  | 7 => 0x3D124925#32
  | _ => 0x00000000#32

/-- The word of the weight that input line `i` has in output line `k`. -/
def weightWord (i k : Nat) : BitVec 32 :=
  cond (Nat.blt (i + 2) (4 * k)) 0x00000000#32
    (cond (or (Nat.beq k 0) (Nat.beq k 55)) (border (i + 2 - 4 * k)) (inner (i + 2 - 4 * k)))

/-- The word of the diagonals at tap `d`, row `i`, column `w`: 1.0 when `i + 3 = w + d`. -/
def diagonalWord (d i w : Nat) : BitVec 32 :=
  cond (Nat.beq (i + 3) (w + d)) 0x3F800000#32 0x00000000#32

/-- Do two tables agree at the `len` entries from `start`? -/
def agree (f g : Nat → BitVec 32) (start len : Nat) : Bool :=
  Nat.rec true (fun n rest => and (Nat.beq (f (start + n)).toNat (g (start + n)).toNat) rest) len

/-- Tables that pass the check are equal entry by entry. -/
theorem eq_of_agree (f g : Nat → BitVec 32) (start len : Nat) (h : agree f g start len = true) (n : Nat)
    (h0 : start ≤ n) (h1 : n < start + len) : f n = g n := by
  induction len with
  | zero => omega
  | succ len ih =>
    have h' : (Nat.beq (f (start + len)).toNat (g (start + len)).toNat && agree f g start len) = true := h
    rw [Bool.and_eq_true] at h'
    rcases Nat.lt_or_ge n (start + len) with hn | hn
    · exact ih h'.2 hn
    · obtain rfl : n = start + len := by omega
      exact BitVec.eq_of_toNat_eq (Nat.eq_of_beq_eq_true h'.1)

end Cert.Tables

end
-- ==== Proof.TableColumns.lean ====
/-
  The kernel's 224 x 56 table of resize weights, checked against the closed form.
-/
module

public import proofs.«01_k».proof.Proof.TableForms

@[expose] public section

set_option maxRecDepth 16384

namespace Cert.Tables

open Idealize.ShloMosaic

/-- The table passes the check, stretch by stretch. -/
theorem columns_agree : ∀ p : Fin 8, agree Cert.KernelIdeal.lit1t (fun n => weightWord (n / 56) (n % 56)) ((p : Nat) * 1568) 1568 = true := by
  decide +kernel

/-- Every entry of the table is the closed form's. -/
theorem columns_word (n : Nat) (h : n < 12544) : Cert.KernelIdeal.lit1t n = weightWord (n / 56) (n % 56) :=
  eq_of_agree _ (fun n => weightWord (n / 56) (n % 56)) _ _ (columns_agree ⟨n / 1568, by omega⟩) n (Nat.div_mul_le_self n 1568)
    (by show n < n / 1568 * 1568 + 1568; omega)

end Cert.Tables

end
-- ==== Proof.TableRows.lean ====
/-
  The kernel's 56 x 224 table of resize weights, checked against the closed form.
-/
module

public import proofs.«01_k».proof.Proof.TableForms

@[expose] public section

set_option maxRecDepth 16384

namespace Cert.Tables

open Idealize.ShloMosaic

/-- The table passes the check, stretch by stretch. -/
theorem rows_agree : ∀ p : Fin 8, agree Cert.KernelIdeal.lit0t (fun n => weightWord (n % 224) (n / 224)) ((p : Nat) * 1568) 1568 = true := by
  decide +kernel

/-- Every entry of the table is the closed form's. -/
theorem rows_word (n : Nat) (h : n < 12544) : Cert.KernelIdeal.lit0t n = weightWord (n % 224) (n / 224) :=
  eq_of_agree _ (fun n => weightWord (n % 224) (n / 224)) _ _ (rows_agree ⟨n / 1568, by omega⟩) n (Nat.div_mul_le_self n 1568)
    (by show n < n / 1568 * 1568 + 1568; omega)

end Cert.Tables

end
-- ==== Proof.TableDiagonals.lean ====
/-
  The kernel's 7 x 56 x 56 table of shifted diagonals, checked against the closed form.
-/
module

public import proofs.«01_k».proof.Proof.TableForms

@[expose] public section

set_option maxRecDepth 16384

namespace Cert.Tables

open Idealize.ShloMosaic

/-- The table passes the check, stretch by stretch. -/
theorem diagonals_agree : ∀ p : Fin 14, agree Cert.KernelIdeal.lit2t (fun n => diagonalWord (n / 3136) (n / 56 % 56) (n % 56)) ((p : Nat) * 1568) 1568 = true := by
  decide +kernel

/-- Every entry of the table is the closed form's. -/
theorem diagonals_word (n : Nat) (h : n < 21952) : Cert.KernelIdeal.lit2t n = diagonalWord (n / 3136) (n / 56 % 56) (n % 56) :=
  eq_of_agree _ (fun n => diagonalWord (n / 3136) (n / 56 % 56) (n % 56)) _ _ (diagonals_agree ⟨n / 1568, by omega⟩) n (Nat.div_mul_le_self n 1568)
    (by show n < n / 1568 * 1568 + 1568; omega)

end Cert.Tables

end
-- ==== Proof.Tables.lean ====
/-
  The literal tables of the two programs. The kernel holds the resize weights twice (224 x 56, and its transpose
  56 x 224) and the 7 x 56 x 56 table of shifted diagonals; the reference holds the same weights twice. Here: all
  four weight tables are one table, and its words denote real numbers that are not negative.
-/
module

public import proofs.«01_k».proof.ReferenceIdeal
public import proofs.«01_k».proof.Proof.TableColumns
public import proofs.«01_k».proof.Proof.TableRows
public import proofs.«01_k».proof.Proof.TableDiagonals
public import Idealize.ShloMosaic.Lib.Pointwise
public import Idealize.ShloMosaic.Lib.IdealHost

@[expose] public section

set_option maxRecDepth 16384

noncomputable section

namespace Cert.Tables

open Idealize.ShloMosaic

/-- The reference's first table of weights is the kernel's 224 x 56 table. -/
theorem reference_first : Cert.ReferenceIdeal.lit0t = Cert.KernelIdeal.lit1t := rfl

/-- The reference's second table of weights is the kernel's 224 x 56 table. -/
theorem reference_second : Cert.ReferenceIdeal.lit1t = Cert.KernelIdeal.lit1t := rfl

/-- A word below the word of infinity denotes a real number that is not negative. -/
theorem ofBits_nonneg_real (b : BitVec 32) (h : b.toNat < 0x7F800000) :
    ∃ r : ℝ, 0 ≤ r ∧ Ideal.ofBits .f32 b = (r : EReal) := by
  have hs : (b.extractLsb' (8 + 23) 1 == 1#1) = false := by
    rw [beq_eq_false_iff_ne]
    intro hc
    have := congrArg BitVec.toNat hc
    simp only [BitVec.extractLsb'_toNat, BitVec.toNat_ofNat, Nat.shiftRight_eq_div_pow] at this
    omega
  have hx : (b.extractLsb' 23 8).toNat ≠ 2 ^ 8 - 1 := by
    simp only [BitVec.extractLsb'_toNat, Nat.shiftRight_eq_div_pow]
    omega
  simp only [Ideal.ofBits, Ideal.ieee, hs, if_neg hx]
  split
  · exact ⟨_, by simp only [Bool.false_eq_true, if_false, one_mul]; positivity, rfl⟩
  · exact ⟨_, by simp only [Bool.false_eq_true, if_false, one_mul]; positivity, rfl⟩

/-- The resize weight that input line `i` has in output line `k`. -/
def weight (i : Fin 224) (k : Fin 56) : EReal := Ideal.ofBits .f32 (weightWord i k)

/-- Every weight's word is below the word of infinity. -/
theorem weightWord_lt (i k : Nat) : (weightWord i k).toNat < 0x7F800000 := by
  have hi : ∀ t, (inner t).toNat < 0x7F800000 := by
    intro t; unfold inner; split <;> decide
  have hb : ∀ t, (border t).toNat < 0x7F800000 := by
    intro t; unfold border; split <;> decide
  unfold weightWord
  cases Nat.blt (i + 2) (4 * k)
  · cases (or (Nat.beq k 0) (Nat.beq k 55))
    · exact hi _
    · exact hb _
  · exact (by decide : (0x00000000#32).toNat < 0x7F800000)

/-- A resize weight is a real number that is not negative. -/
theorem weight_nonneg_real (i : Fin 224) (k : Fin 56) : ∃ r : ℝ, 0 ≤ r ∧ weight i k = (r : EReal) :=
  ofBits_nonneg_real _ (weightWord_lt i k)

/-- The kernel's 224 x 56 table at row `i`, column `k`. -/
theorem column_table (i : Fin 224) (k : Fin 56) :
    Ideal.ofBits .f32 (Cert.KernelIdeal.lit1t (i * 56 + k)) = weight i k := by
  rw [columns_word _ (by omega)]
  unfold weight
  rw [show (i.val * 56 + k.val) / 56 = i.val by omega, show (i.val * 56 + k.val) % 56 = k.val by omega]

/-- The kernel's 56 x 224 table at row `k`, column `i`. -/
theorem row_table (i : Fin 224) (k : Fin 56) :
    Ideal.ofBits .f32 (Cert.KernelIdeal.lit0t (k * 224 + i)) = weight i k := by
  rw [rows_word _ (by omega)]
  unfold weight
  rw [show (k.val * 224 + i.val) / 224 = k.val by omega, show (k.val * 224 + i.val) % 224 = i.val by omega]

/-- The kernel's diagonals at tap `d`, row `i`, column `w`: one when `i + 3 = w + d`, zero otherwise. -/
theorem diagonal_table (d : Fin 7) (i w : Fin 56) :
    Ideal.ofBits .f32 (Cert.KernelIdeal.lit2t ((d * 56 + i) * 56 + w)) = if (i : Nat) + 3 = w + d then (1 : EReal) else 0 := by
  rw [diagonals_word _ (by omega)]
  rw [show ((d.val * 56 + i.val) * 56 + w.val) / 3136 = d.val by omega,
    show ((d.val * 56 + i.val) * 56 + w.val) / 56 % 56 = i.val by omega,
    show ((d.val * 56 + i.val) * 56 + w.val) % 56 = w.val by omega]
  unfold diagonalWord
  by_cases h : (i : Nat) + 3 = w + d
  · rw [if_pos h, (Nat.beq_eq ..).mpr h]
    exact Ideal.ofBits_one_f32
  · rw [if_neg h, show Nat.beq (i.val + 3) (w.val + d.val) = false from by
      rw [Bool.eq_false_iff]; intro hc; exact h (Nat.eq_of_beq_eq_true hc)]
    exact Ideal.ofBits_zero_f32

end Cert.Tables

end
-- ==== Proof.Spec.lean ====
/-
  What both programs compute, on plain functions of one batch entry: the mask shrunk to 56 x 56 by the weights table,
  the masked image, its three planes (channel mean, channel maximum, mask), the 7 x 7 convolution of the zero-padded
  planes, the gate, and the normalisation of one channel with the nineteen equal rounds added up.
-/
module

public import proofs.«01_k».proof.Proof.Tables

@[expose] public section

set_option maxRecDepth 16384

noncomputable section

namespace Cert.Spec

open Idealize.ShloMosaic Cert.Tables

/-- The mask shrunk to 56 x 56: weights from the left and from the right. -/
def resized (M : Fin 224 → Fin 224 → EReal) (k l : Fin 56) : EReal :=
  ∑ j : Fin 224, (∑ i : Fin 224, weight i k * M i j) * weight j l

/-- The image times the mask, channel by channel. -/
def masked (x : Fin 384 → Fin 56 → Fin 56 → EReal) (m : Fin 56 → Fin 56 → EReal) (c : Fin 384) (k l : Fin 56) : EReal :=
  x c k l * m k l

/-- The three planes: the mean over the channels, the maximum over the channels, the mask. -/
def planes (x : Fin 384 → Fin 56 → Fin 56 → EReal) (m : Fin 56 → Fin 56 → EReal) (p : Fin 3) (k l : Fin 56) : EReal :=
  if (p : Nat) < 1 then Ideal.div (∑ c : Fin 384, masked x m c k l) (Ideal.ofBits .f32 0x43C00000#32)
  else if (p : Nat) - 1 < 1 then
    Finset.fold max (Ideal.ofBits .f32 0xFF800000#32) (fun c : Fin 384 => masked x m c k l) Finset.univ
  else m k l

/-- A plane with three lines of zeros on every side. -/
def padded (p : Fin 56 → Fin 56 → EReal) (k l : Fin 62) : EReal :=
  if h : (3 ≤ (k : Nat) ∧ (k : Nat) - 3 < 56) ∧ 3 ≤ (l : Nat) ∧ (l : Nat) - 3 < 56 then
    p ⟨(k : Nat) - 3, h.1.2⟩ ⟨(l : Nat) - 3, h.2.2⟩ else 0

/-- The 7 x 7 convolution of the padded planes. -/
def attention (w : Fin 3 → Fin 7 → Fin 7 → EReal) (p : Fin 3 → Fin 56 → Fin 56 → EReal) (k l : Fin 56) : EReal :=
  ∑ c : Fin 3, ∑ i : Fin 7, ∑ j : Fin 7,
    w c i j * padded (p c) ⟨(k : Nat) + i, by omega⟩ ⟨(l : Nat) + j, by omega⟩

/-- The gate: one over one plus the exponential of the negated value. -/
def gate (a : EReal) : EReal := Ideal.div 1 (1 + Ideal.exp (-a))

/-- The masked image times the gate of the convolution. -/
def gated (x : Fin 384 → Fin 56 → Fin 56 → EReal) (m : Fin 56 → Fin 56 → EReal) (w : Fin 3 → Fin 7 → Fin 7 → EReal)
    (c : Fin 384) (k l : Fin 56) : EReal :=
  masked x m c k l * gate (attention w (planes x m) k l)

/-- The mean of one channel. -/
def mean (o : Fin 56 → Fin 56 → EReal) : EReal :=
  Ideal.div (∑ k : Fin 56, ∑ l : Fin 56, o k l) (Ideal.ofBits .f32 0x45440000#32)

/-- The mean of the squared distances from the mean. -/
def variance (o : Fin 56 → Fin 56 → EReal) : EReal :=
  Ideal.div (∑ k : Fin 56, ∑ l : Fin 56, (o k l - mean o) * (o k l - mean o)) (Ideal.ofBits .f32 0x45440000#32)

/-- One round: the channel normalised, scaled and shifted. -/
def normed (o : Fin 56 → Fin 56 → EReal) (g b : EReal) (k l : Fin 56) : EReal :=
  Ideal.div (o k l - mean o) (Ideal.sqrt (variance o + Ideal.ofBits .f32 0x3727C5AC#32)) * g + b

/-- Nineteen copies of a value, added one after the other. -/
def copies (y : EReal) : EReal :=
  y + y + y + y + y + y + y + y + y + y + y + y + y + y + y + y + y + y + y

/-- The result: nineteen equal rounds added up, negative values cut to zero. -/
def result (o : Fin 56 → Fin 56 → EReal) (g b : EReal) (k l : Fin 56) : EReal :=
  max (copies (normed o g b k l)) 0

end Cert.Spec

end
-- ==== Proof.KernelArray.lean ====
/-
  What the host code hands to the kernel, the blocks of a grid point as parts of it, and the returned array from
  what the grid points write.
-/
module

public import proofs.«01_k».proof.Proof.Gen.KernelIdeal.Value
public import proofs.«01_k».proof.Proof.KernelBlock
public import proofs.«01_k».proof.Proof.Spec
public import Idealize.ShloMosaic.Lib.Pointwise
public import Idealize.ShloMosaic.Lib.Pipeline.ValueKit
public import Idealize.ShloMosaic.Lib.Tactic
public import Idealize.ShloMosaic.Lib.Tactic.CleanTypes

@[expose] public section

set_option maxRecDepth 16384

noncomputable section

namespace Cert.KernelArray

open Idealize.ShloMosaic Idealize.ShloMosaic.TcCoe Idealize.SL.Sem Cert.KernelIdeal Cert.KernelIdeal.Gen Cert.KernelBlock
open Idealize.ShloMosaic.Pipeline (Dat)

variable (m : (ℓ : Loc nD τ sig) → Buf (Elt Ideal) ℓ) (c : Dev nD)

/-- The image argument of one batch entry. -/
def argX (b : Fin 8) (ch : Fin 384) (k l : Fin 56) : EReal := m ((c : Thread nD τ).loc main_arg0) (ix4 b ch k l)

/-- The mask argument of one batch entry. -/
def argM (b : Fin 8) (i j : Fin 224) : EReal := m ((c : Thread nD τ).loc main_arg1) (ix3 b i j)

/-- The filter argument. -/
def argW (p : Fin 3) (i j : Fin 7) : EReal := m ((c : Thread nD τ).loc main_arg2) (ix4 0 p i j)

/-- The scale argument. -/
def argG (ch : Fin 384) : EReal := m ((c : Thread nD τ).loc main_arg3) (ix1 ch)

/-- The shift argument. -/
def argB (ch : Fin 384) : EReal := m ((c : Thread nD τ).loc main_arg4) (ix1 ch)

/-- The image as the kernel is given it: the last two axes one. -/
theorem V_image (b : Fin 8) (ch : Fin 384) (k l : Fin 56) (s : Fin 3136) (hs : (s : Nat) = k * 56 + l) :
    V m c main_v6 (ix3 b ch s) = argX m c b ch k l := by
  have h : V m c main_v6 = shapeCast S8x384x3136 (m ((c : Thread nD τ).loc main_arg0)) shapeCasts_S8x384x56x56_S8x384x3136 := by
    show StableHlo.after hostOps0 _ (Proc.devRef .tc main_v6) = _
    after_results
    rfl
  rw [h]
  pointwise
  rw [show (⟨(s : Nat) / 56, by omega⟩ : Fin 56) = k from Fin.ext (by show (s : Nat) / 56 = k; omega),
    show (⟨(s : Nat) % 56, by omega⟩ : Fin 56) = l from Fin.ext (by show (s : Nat) % 56 = l; omega)]
  rfl

/-- The table of weights, output lines down. -/
theorem V_rows (i : Fin 224) (k : Fin 56) : V m c main_cst (ix2 k i) = Tables.weight i k := by
  have h : V m c main_cst = fun i => FloatOps.ofBits (F := Ideal) .f32 (lit0 (S56x224.rowMajor i)) := by
    show StableHlo.after hostOps0 _ (Proc.devRef .tc main_cst) = _
    after_results
    rfl
  rw [h]
  have h : ((S56x224.rowMajor (ix2 k i) : Fin _) : Nat) = k * 224 + i := rowMajor_val2 _ 224 rfl
  show Ideal.ofBits FTy.f32 (lit0t (S56x224.rowMajor (ix2 k i) : Fin _).val) = _
  rw [h]
  exact Tables.row_table i k

/-- The table of weights, input lines down. -/
theorem V_columns (i : Fin 224) (k : Fin 56) : V m c main_cst_0 (ix2 i k) = Tables.weight i k := by
  have h : V m c main_cst_0 = fun i => FloatOps.ofBits (F := Ideal) .f32 (lit1 (S224x56.rowMajor i)) := by
    show StableHlo.after hostOps0 _ (Proc.devRef .tc main_cst_0) = _
    after_results
    rfl
  rw [h]
  have h : ((S224x56.rowMajor (ix2 i k) : Fin _) : Nat) = i * 56 + k := rowMajor_val2 _ 56 rfl
  show Ideal.ofBits FTy.f32 (lit1t (S224x56.rowMajor (ix2 i k) : Fin _).val) = _
  rw [h]
  exact Tables.column_table i k

/-- The scale the kernel is given: nineteen times the argument. -/
theorem V_scale (ch : Fin 384) : V m c main_v2 (ix2 ch 0) = argG m c ch * Ideal.ofBits .f32 0x41980000#32 := by
  have h : V m c main_v2 = shapeCast S384x1 (mulf (m ((c : Thread nD τ).loc main_arg3))
      (broadcastInDim S384 ![] bcast_S_S384 (constant (F := Ideal) S_ .f32 0x41980000#32))) shapeCasts_S384_S384x1 := by
    show StableHlo.after hostOps0 _ (Proc.devRef .tc main_v2) = _
    after_results
    rfl
  rw [h]
  pointwise
  rfl

/-- The shift the kernel is given: nineteen times the argument. -/
theorem V_shift (ch : Fin 384) : V m c main_v5 (ix2 ch 0) = argB m c ch * Ideal.ofBits .f32 0x41980000#32 := by
  have h : V m c main_v5 = shapeCast S384x1 (mulf (m ((c : Thread nD τ).loc main_arg4))
      (broadcastInDim S384 ![] bcast_S_S384 (constant (F := Ideal) S_ .f32 0x41980000#32))) shapeCasts_S384_S384x1 := by
    show StableHlo.after hostOps0 _ (Proc.devRef .tc main_v5) = _
    after_results
    rfl
  rw [h]
  pointwise
  rfl

/-- The bands the kernel is given: at tap row `d`, plane `p`, row `i` of the plane and column `l`, the diagonals against the filter row. -/
theorem V_bands (d : Fin 7) (p : Fin 3) (i l : Fin 56) (j : Fin 168) (hj : (j : Nat) = p * 56 + i) :
    V m c main_v10 (ix3 d j l)
      = ∑ t : Fin 7, (if (i : Nat) + 3 = l + t then (1 : EReal) else 0) * argW m c p d t := by
  obtain ⟨A, hA⟩ : ∃ A : FVec Ideal S1x3x7x7 .f32, A = m ((c : Thread nD τ).loc main_arg2) := ⟨_, rfl⟩
  have h : V m c main_v10 = shapeCast S7x168x56 (transpose S7x3x56x56 [3, 2, 0, 1]
      (Host.dotGeneral dot_S7x56x56_S3x7x7_S56x56x3x7_0_2_12_01_n_n (some .fp32)
        (fun i => FloatOps.ofBits (F := Ideal) .f32 (lit2 (S7x56x56.rowMajor i)))
        (shapeCast S3x7x7 A shapeCasts_S1x3x7x7_S3x7x7))
      transposes_S56x56x3x7_S7x3x56x56_3_2_0_1) shapeCasts_S7x3x56x56_S7x168x56 := by
    show StableHlo.after hostOps0 _ (Proc.devRef .tc main_v10) = _
    after_results
    rw [hA]
    rfl
  rw [h]
  pointwise
  have terms : ∀ f f' g g' : Fin 7 → EReal, (∀ t, f t = f' t) → (∀ t, g t = g' t) → ∑ t, f t * g t = ∑ t, f' t * g' t :=
    fun f f' g g' hf hg => Finset.sum_congr rfl fun t _ => congrArg₂ (· * ·) (hf t) (hg t)
  refine terms _ _ _ _ (fun t => ?_) (fun t => ?_)
  · have h : ((S7x56x56.rowMajor (ix3 t ⟨(j : Nat) % 56, Nat.mod_lt _ (by decide)⟩ l) : Fin _) : Nat) = (t * 56 + (j : Nat) % 56) * 56 + l := by
      rw [rowMajor_val3 _ 3136 56 rfl rfl]
      show (t : Nat) * 3136 + (j : Nat) % 56 * 56 + l = _
      ring
    show Ideal.ofBits FTy.f32 (lit2t (S7x56x56.rowMajor (ix3 t ⟨(j : Nat) % 56, Nat.mod_lt _ (by decide)⟩ l) : Fin _).val) = _
    rw [h, show (j : Nat) % 56 = i by omega]
    exact Tables.diagonal_table t i l
  · rw [hA]
    unfold argW
    congr 2
    exact Fin.ext (by show (j : Nat) / 56 = p; omega)

/-- The mask block index of a grid point. -/
theorem index0 : ∀ t : Fin cfg0.N, win0_0.index t = ![t.val, 0, 0] := (by decide +kernel : ∀ t : Fin grid0.N, _)
/-- The image block index of a grid point. -/
theorem index1 : ∀ t : Fin cfg0.N, win0_1.index t = ![t.val, 0, 0] := (by decide +kernel : ∀ t : Fin grid0.N, _)
/-- The first table has one block. -/
theorem index2 : ∀ t : Fin cfg0.N, win0_2.index t = ![0, 0] := (by decide +kernel : ∀ t : Fin grid0.N, _)
/-- The second table has one block. -/
theorem index3 : ∀ t : Fin cfg0.N, win0_3.index t = ![0, 0] := (by decide +kernel : ∀ t : Fin grid0.N, _)
/-- The scale has one block. -/
theorem index4 : ∀ t : Fin cfg0.N, win0_4.index t = ![0, 0] := (by decide +kernel : ∀ t : Fin grid0.N, _)
/-- The shift has one block. -/
theorem index5 : ∀ t : Fin cfg0.N, win0_5.index t = ![0, 0] := (by decide +kernel : ∀ t : Fin grid0.N, _)
/-- The bands have one block. -/
theorem index6 : ∀ t : Fin cfg0.N, win0_6.index t = ![0, 0, 0] := (by decide +kernel : ∀ t : Fin grid0.N, _)
/-- The result block index of a grid point. -/
theorem index7 : ∀ t : Fin cfg0.N, win0_7.index t = ![t.val, 0, 0] := (by decide +kernel : ∀ t : Fin grid0.N, _)

/-- The mask block of a grid point: the mask of its batch entry. -/
theorem block0 (t : Fin cfg0.N) (b : Fin 8) (hb : (b : Nat) = t) (i j : Fin 224) :
    (iblk m c 0 t : Vec Ideal S1x224x224 .f32) (ix3 0 i j) = argM m c b i j := by
  have e : V m c main_arg1 = m ((c : Thread nD τ).loc main_arg1) := V_main_arg1 m c
  unfold argM
  rw [← e]
  blk_simp [iblk]
  congr 1
  blk_ext [index0]

/-- The image block of a grid point: the image of its batch entry. -/
theorem block1 (t : Fin cfg0.N) (b : Fin 8) (hb : (b : Nat) = t) (ch : Fin 384) (s : Fin 3136) :
    (iblk m c 1 t : Vec Ideal S1x384x3136 .f32) (ix3 0 ch s) = V m c main_v6 (ix3 b ch s) := by
  blk_simp [iblk]
  congr 1
  blk_ext [index1]

/-- The first table's block is the table. -/
theorem block2 (t : Fin cfg0.N) (k : Fin 56) (i : Fin 224) :
    (iblk m c 2 t : Vec Ideal S56x224 .f32) (ix2 k i) = V m c main_cst (ix2 k i) := by
  blk_simp [iblk]
  congr 1
  blk_ext [index2]

/-- The second table's block is the table. -/
theorem block3 (t : Fin cfg0.N) (i : Fin 224) (k : Fin 56) :
    (iblk m c 3 t : Vec Ideal S224x56 .f32) (ix2 i k) = V m c main_cst_0 (ix2 i k) := by
  blk_simp [iblk]
  congr 1
  blk_ext [index3]

/-- The scale's block is the scale. -/
theorem block4 (t : Fin cfg0.N) (ch : Fin 384) :
    (iblk m c 4 t : Vec Ideal S384x1 .f32) (ix2 ch 0) = V m c main_v2 (ix2 ch 0) := by
  blk_simp [iblk]
  congr 1
  blk_ext [index4]

/-- The shift's block is the shift. -/
theorem block5 (t : Fin cfg0.N) (ch : Fin 384) :
    (iblk m c 5 t : Vec Ideal S384x1 .f32) (ix2 ch 0) = V m c main_v5 (ix2 ch 0) := by
  blk_simp [iblk]
  congr 1
  blk_ext [index5]

/-- The bands' block is the bands. -/
theorem block6 (t : Fin cfg0.N) (d : Fin 7) (j : Fin 168) (l : Fin 56) :
    (iblk m c 6 t : Vec Ideal S7x168x56 .f32) (ix3 d j l) = V m c main_v10 (ix3 d j l) := by
  blk_simp [iblk]
  congr 1
  blk_ext [index6]

/-- The array the kernel returns is any function the blocks of all grid points agree with. -/
theorem final_of_blocks (G : Fin 8 → Fin 384 → Fin 3136 → EReal)
    (h : ∀ (t : Fin cfg0.N) (b : Fin 8), (b : Nat) = t → ∀ (ch : Fin 384) (s : Fin 3136),
      (out0_7 (iblk m c 0 t) (iblk m c 1 t) (iblk m c 2 t) (iblk m c 3 t) (iblk m c 4 t) (iblk m c 5 t) (iblk m c 6 t)
        : Vec Ideal S1x384x3136 .f32) (ix3 0 ch s) = G b ch s) :
    (dats m 0 c).arrAt 7 cfg0.N = (fun i : S8x384x3136.Idx => G (i 0) (i 1) (i 2)) := by
  refine (dats m 0 c).arrAt_eq_of_covers 7 _ (by decide +kernel) fun t hf y => ?_
  blk_simp
  rw [after0_7]
  have key : ∀ z : S1x384x3136.Idx,
      (out0_7 (iblk m c 0 t) (iblk m c 1 t) (iblk m c 2 t) (iblk m c 3 t) (iblk m c 4 t) (iblk m c 5 t) (iblk m c 6 t)
        : Vec Ideal S1x384x3136 .f32) z = G ((win0_7.blk t).view.emb z 0) ((win0_7.blk t).view.emb z 1) ((win0_7.blk t).view.emb z 2) := by
    intro z
    obtain ⟨ch, hch⟩ : ∃ ch : Fin 384, ch = z 1 := ⟨_, rfl⟩
    obtain ⟨s, hs⟩ : ∃ s : Fin 3136, s = z 2 := ⟨_, rfl⟩
    have hz : z = ix3 (0 : Fin 1) ch s := by
      funext a
      match a with
      | ⟨0, _⟩ => exact Fin.ext (Nat.lt_one_iff.mp (z 0).isLt)
      | ⟨1, _⟩ => exact hch.symm
      | ⟨2, _⟩ => exact hs.symm
    rw [hz, h t ⟨t.val, t.isLt⟩ rfl]
    have e0 : (win0_7.blk t).view.emb (ix3 (0 : Fin 1) ch s) = ix3 (⟨t.val, t.isLt⟩ : Fin 8) ch s := by
      blk_ext [index7]
    rw [e0]
    rfl
  exact key y

end Cert.KernelArray

end
-- ==== Proof.AlgebraNorm.lean ====
/-
  One normalised channel, both ways: the kernel's one pass (mean of the squares less the square of the mean, the
  nineteen folded into scale and shift) against the mean of the squared distances and nineteen added rounds.
-/
module

public import proofs.«01_k».proof.Proof.KernelBlock
public import proofs.«01_k».proof.Proof.Spec
public import Idealize.ShloMosaic.Lib.IdealHost
public import Mathlib.Tactic.Ring
public import Mathlib.Tactic.FieldSimp
public import Mathlib.Tactic.Linarith
public import Mathlib.Tactic.Positivity

@[expose] public section

set_option maxRecDepth 16384

noncomputable section

namespace Cert.AlgebraNorm

open Idealize.ShloMosaic Cert.KernelBlock

/-- The word of nineteen. -/
theorem word_nineteen : Ideal.ofBits .f32 0x41980000#32 = ((19 : ℝ) : EReal) := by
  simp [Ideal.ofBits, Ideal.ieee, -EReal.coe_mul]; norm_num

/-- The word of the number of pixels. -/
theorem word_pixels : Ideal.ofBits .f32 0x45440000#32 = ((3136 : ℝ) : EReal) := by
  simp [Ideal.ofBits, Ideal.ieee, -EReal.coe_mul]; norm_num

/-- The word of the number of channels. -/
theorem word_channels : Ideal.ofBits .f32 0x43C00000#32 = ((384 : ℝ) : EReal) := by
  simp [Ideal.ofBits, Ideal.ieee, -EReal.coe_mul]; norm_num

/-- The word added to the variance is a positive real. -/
theorem word_eps : Ideal.ofBits .f32 0x3727C5AC#32 = ((10995116 / 2 ^ 40 : ℝ) : EReal) := by
  simp [Ideal.ofBits, Ideal.ieee, -EReal.coe_mul]; norm_num

/-- A sum of reals, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the pixels of an image laid flat, line by line. -/
theorem sum_flat (f : Fin 3136 → EReal) :
    ∑ s : Fin 3136, f s = ∑ k : Fin 56, ∑ l : Fin 56, f ⟨(k : Nat) * 56 + l, by omega⟩ := by
  rw [← Fintype.sum_prod_type']
  refine (Fintype.sum_equiv (finProdFinEquiv (m := 56) (n := 56)) _ f fun q => ?_).symm
  refine congrArg f (Fin.ext ?_)
  show (q.1 : Nat) * 56 + q.2 = q.2 + 56 * q.1
  ring

/-- The mean of the squared distances from the mean is the mean of the squares less the square of the mean. -/
theorem variance_identity (o : Fin 56 → Fin 56 → ℝ) (μ : ℝ) (hμ : (∑ k, ∑ l, o k l) * (1 / 3136) = μ) :
    (∑ k, ∑ l, o k l * o k l) * (1 / 3136) - μ * μ = (∑ k, ∑ l, (o k l - μ) * (o k l - μ)) * (1 / 3136) := by
  have h : ∑ k, ∑ l, (o k l - μ) * (o k l - μ)
      = (∑ k, ∑ l, o k l * o k l) - 2 * μ * (∑ k, ∑ l, o k l) + 3136 * (μ * μ) := by
    have e : ∀ k l, (o k l - μ) * (o k l - μ) = o k l * o k l - 2 * μ * o k l + μ * μ := fun k l => by ring
    simp only [e, Finset.sum_add_distrib, Finset.sum_sub_distrib, ← Finset.mul_sum, Finset.sum_const, Finset.card_univ,
      Fintype.card_fin, nsmul_eq_mul]
    norm_num
    ring
  have hs : ∑ k, ∑ l, o k l = 3136 * μ := by rw [← hμ]; ring
  rw [h, hs]
  ring

/-- Nineteen copies of a real added one after the other. -/
theorem copies_coe (y : ℝ) : Spec.copies (y : EReal) = ((19 * y : ℝ) : EReal) := by
  unfold Spec.copies
  simp only [← EReal.coe_add]
  congr 1
  ring

/-- The kernel's normalised channel is the nineteen added rounds. -/
theorem row_eq (o : Fin 56 → Fin 56 → ℝ) (g : ℝ) (b : EReal) (o' : Fin 3136 → EReal)
    (ho : ∀ (k l : Fin 56) (s : Fin 3136), (s : Nat) = k * 56 + l → o' s = (o k l : EReal))
    (k l : Fin 56) (s : Fin 3136) (hs : (s : Nat) = k * 56 + l) :
    rowOut o' ((g : EReal) * Ideal.ofBits .f32 0x41980000#32) (b * Ideal.ofBits .f32 0x41980000#32) s
      = Spec.result (fun k l => (o k l : EReal)) (g : EReal) b k l := by
  obtain ⟨μ, hμ⟩ : ∃ μ : ℝ, (∑ k, ∑ l, o k l) * (1 / 3136) = μ := ⟨_, rfl⟩
  obtain ⟨v, hv⟩ : ∃ v : ℝ, (∑ k, ∑ l, (o k l - μ) * (o k l - μ)) * (1 / 3136) = v := ⟨_, rfl⟩
  have hv0 : 0 ≤ v := by
    rw [← hv]
    exact mul_nonneg (Finset.sum_nonneg fun k _ => Finset.sum_nonneg fun l _ => mul_self_nonneg _) (by norm_num)
  have hflat : ∀ (k l : Fin 56), o' ⟨(k : Nat) * 56 + l, by omega⟩ = (o k l : EReal) := fun k l => ho k l _ rfl
  have hm : rowMean o' = (μ : EReal) := by
    unfold rowMean
    rw [sum_flat]
    simp only [hflat, ← coe_sum, ← EReal.coe_mul, hμ]
  have hq : (∑ s, o' s * o' s) * ((1 / 3136 : ℝ) : EReal) - (μ : EReal) * μ = (v : EReal) := by
    rw [sum_flat (fun s => o' s * o' s)]
    simp only [hflat, ← EReal.coe_mul, ← coe_sum, ← EReal.coe_sub]
    rw [variance_identity o μ hμ, hv]
  have hm' : Spec.mean (fun k l => (o k l : EReal)) = (μ : EReal) := by
    unfold Spec.mean
    rw [word_pixels, Ideal.div_coe (by norm_num)]
    simp only [← coe_sum, ← EReal.coe_mul, hμ]
  have hv' : Spec.variance (fun k l => (o k l : EReal)) = (v : EReal) := by
    unfold Spec.variance
    rw [hm', word_pixels, Ideal.div_coe (by norm_num)]
    simp only [← EReal.coe_sub, ← EReal.coe_mul, ← coe_sum, hv]
  obtain ⟨e, he, he0⟩ : ∃ e : ℝ, Ideal.ofBits .f32 0x3727C5AC#32 = (e : EReal) ∧ 0 < e := ⟨_, word_eps, by positivity⟩
  have hpos : 0 < v + e := by linarith
  have hr0 : Real.sqrt (v + e) ≠ 0 := (Real.sqrt_pos.mpr hpos).ne'
  have hscale : rowScale o' ((g : EReal) * Ideal.ofBits .f32 0x41980000#32) = (((Real.sqrt (v + e))⁻¹ * (g * 19) : ℝ) : EReal) := by
    unfold rowScale
    rw [hm, hq, he, word_nineteen, ← EReal.coe_add, Ideal.rsqrt_coe, if_neg (not_lt.mpr hpos.le), if_neg hpos.ne']
    simp only [← EReal.coe_mul]
  have hn : Spec.normed (fun k l => (o k l : EReal)) (g : EReal) b k l
      = (((o k l - μ) * (1 / Real.sqrt (v + e)) * g : ℝ) : EReal) + b := by
    unfold Spec.normed
    rw [hm', hv', he, ← EReal.coe_add, Ideal.sqrt_coe, if_neg (not_lt.mpr hpos.le), Ideal.div_coe hr0]
    simp only [← EReal.coe_sub, ← EReal.coe_mul]
  unfold rowOut Spec.result
  rw [hscale, hm, hn, ho k l s hs, word_nineteen]
  congr 1
  induction b with
  | bot =>
    rw [EReal.bot_mul_coe_of_pos (by norm_num)]
    simp [Spec.copies]
  | top =>
    rw [EReal.top_mul_coe_of_pos (by norm_num), ← EReal.coe_mul, ← EReal.coe_mul, EReal.top_sub_coe, EReal.coe_add_top, EReal.coe_add_top]
    simp [Spec.copies]
  | coe b =>
    simp only [← EReal.coe_mul, ← EReal.coe_sub, ← EReal.coe_add, copies_coe]
    congr 1
    field_simp
    ring

end Cert.AlgebraNorm

end
-- ==== Proof.AlgebraGate.lean ====
/-
  The gate of one pixel, both ways: the planes side by side against the bands of the filter, one tap row at a time,
  against the plain 7 x 7 convolution of the zero-padded planes.
-/
module

public import proofs.«01_k».proof.Proof.AlgebraNorm

@[expose] public section

set_option maxRecDepth 16384

noncomputable section

namespace Cert.AlgebraGate

open Idealize.ShloMosaic Cert.KernelBlock Cert.KernelIdeal Cert.KernelIdeal.Gen

/-- A real that is not negative, among the extended reals. -/
def IsNonneg (a : EReal) : Prop := ∃ r : ℝ, 0 ≤ r ∧ a = (r : EReal)

/-- Products of reals that are not negative are such. -/
theorem IsNonneg.mul {a b : EReal} (ha : IsNonneg a) (hb : IsNonneg b) : IsNonneg (a * b) := by
  obtain ⟨r, hr, rfl⟩ := ha
  obtain ⟨t, ht, rfl⟩ := hb
  exact ⟨r * t, mul_nonneg hr ht, (EReal.coe_mul r t).symm⟩

/-- Sums of reals that are not negative are such. -/
theorem IsNonneg.sum {n : Nat} {f : Fin n → EReal} (h : ∀ i, IsNonneg (f i)) : IsNonneg (∑ i, f i) := by
  choose r hr e using h
  refine ⟨∑ i, r i, Finset.sum_nonneg fun i _ => hr i, ?_⟩
  rw [AlgebraNorm.coe_sum]
  exact Finset.sum_congr rfl fun i _ => e i

/-- A mask of reals that are not negative shrinks to reals that are not negative. -/
theorem resized_nonneg (M : Fin 224 → Fin 224 → EReal) (hM : ∀ i j, IsNonneg (M i j)) (k l : Fin 56) :
    IsNonneg (Spec.resized M k l) :=
  IsNonneg.sum fun j => (IsNonneg.sum fun i => (Tables.weight_nonneg_real i k).elim fun r h => IsNonneg.mul ⟨r, h.1, h.2⟩ (hM i j)).mul
    ((Tables.weight_nonneg_real j l).elim fun r h => ⟨r, h.1, h.2⟩)

/-- The word of the maximum's start is the least extended real. -/
theorem word_least : Ideal.ofBits .f32 0xFF800000#32 = (⊥ : EReal) := by
  simp [Ideal.ofBits, Ideal.ieee]

/-- A maximum over a set that is not empty, times a factor that is not negative. -/
theorem fold_max_mul {ι : Type} (m : EReal) (hm : 0 ≤ m) (f : ι → EReal) (s : Finset ι) (hs : s.Nonempty) :
    Finset.fold max ⊥ f s * m = Finset.fold max ⊥ (fun i => f i * m) s := by
  classical
  have mono : Monotone fun a : EReal => a * m := fun a b h => mul_le_mul_of_nonneg_right h hm
  induction hs using Finset.Nonempty.cons_induction with
  | singleton a => simp
  | cons a s ha hs ih =>
    rw [Finset.fold_cons, Finset.fold_cons, ← ih]
    exact mono.map_max

/-- At most one index is picked: a factor goes inside. -/
theorem mul_pick {n : Nat} (x : EReal) (q : Fin n → Prop) [DecidablePred q] (uniq : ∀ s t, q s → q t → s = t) (f : Fin n → EReal) :
    x * ∑ t, (if q t then f t else 0) = ∑ t, if q t then x * f t else 0 := by
  by_cases h : ∃ t, q t
  · obtain ⟨t, ht⟩ := h
    have off : ∀ s, s ≠ t → ¬ q s := fun s hs hq => hs (uniq s t hq ht)
    rw [Finset.sum_eq_single t (fun s _ hs => if_neg (off s hs)) (fun h => absurd (Finset.mem_univ t) h),
      Finset.sum_eq_single t (fun s _ hs => if_neg (off s hs)) (fun h => absurd (Finset.mem_univ t) h), if_pos ht, if_pos ht]
  · have off : ∀ s, ¬ q s := fun s hs => h ⟨s, hs⟩
    simp [off]

/-- One line of one plane against its band: the taps of one filter row. -/
theorem band_line (P : Fin 56 → EReal) (w : Fin 7 → EReal) (l : Fin 56) :
    ∑ i : Fin 56, P i * ∑ t : Fin 7, (if (i : Nat) + 3 = l + t then (1 : EReal) else 0) * w t
      = ∑ t : Fin 7, w t * (if h : 3 ≤ (l : Nat) + t ∧ (l : Nat) + t - 3 < 56 then P ⟨(l : Nat) + t - 3, h.2⟩ else 0) := by
  have e : ∀ i : Fin 56, P i * ∑ t : Fin 7, (if (i : Nat) + 3 = l + t then (1 : EReal) else 0) * w t
      = ∑ t : Fin 7, if (i : Nat) + 3 = l + t then P i * w t else 0 := by
    intro i
    rw [← mul_pick (P i) (fun t : Fin 7 => (i : Nat) + 3 = l + t) (fun s t hs ht => Fin.ext (by omega)) w]
    simp only [ite_mul, one_mul, zero_mul]
  simp only [e]
  rw [Finset.sum_comm]
  refine Finset.sum_congr rfl fun t _ => ?_
  by_cases h : 3 ≤ (l : Nat) + t ∧ (l : Nat) + t - 3 < 56
  · rw [dif_pos h, Finset.sum_eq_single ⟨(l : Nat) + t - 3, h.2⟩ ?_ (fun h => absurd (Finset.mem_univ _) h), if_pos ?_, mul_comm]
    · show (l : Nat) + t - 3 + 3 = l + t
      omega
    · intro i _ hi
      refine if_neg fun hh => hi (Fin.ext ?_)
      show (i : Nat) = (l : Nat) + t - 3
      omega
  · rw [dif_neg h, mul_zero]
    refine Finset.sum_eq_zero fun i _ => if_neg fun hh => h ?_
    omega

/-- A sum over the three planes side by side. -/
theorem sum_planes (f : Fin 168 → EReal) :
    ∑ j : Fin 168, f j = ∑ p : Fin 3, ∑ i : Fin 56, f ⟨(p : Nat) * 56 + i, by omega⟩ := by
  rw [← Fintype.sum_prod_type']
  refine (Fintype.sum_equiv (finProdFinEquiv (m := 3) (n := 56)) _ f fun q => ?_).symm
  refine congrArg f (Fin.ext ?_)
  show (q.1 : Nat) * 56 + q.2 = q.2 + 56 * q.1
  ring

variable (x0 : Vec Ideal S1x224x224 .f32) (x1 : Vec Ideal S1x384x3136 .f32) (x2 : Vec Ideal S56x224 .f32)
  (x3 : Vec Ideal S224x56 .f32) (x6 : Vec Ideal S7x168x56 .f32)

/-- The seven tap rows are the convolution. -/
theorem taps_eq (P : Fin 3 → Fin 56 → Fin 56 → EReal) (w : Fin 3 → Fin 7 → Fin 7 → EReal)
    (hS : ∀ (p : Fin 3) (k i : Fin 56) (j : Fin 168), (j : Nat) = p * 56 + i → sideBySide x0 x1 x2 x3 k j = P p k i)
    (hX : ∀ (d : Fin 7) (p : Fin 3) (i l : Fin 56) (j : Fin 168), (j : Nat) = p * 56 + i →
      x6 (ix3 d j l) = (∑ t : Fin 7, (if (i : Nat) + 3 = l + t then (1 : EReal) else 0) * w p d t : EReal))
    (k l : Fin 56) : ∑ d : Fin 7, tapTerm x0 x1 x2 x3 x6 k l d = Spec.attention w P k l := by
  unfold Spec.attention
  rw [Finset.sum_comm]
  refine Finset.sum_congr rfl fun d _ => ?_
  unfold tapTerm
  by_cases h : 3 ≤ (k : Nat) + d ∧ (k : Nat) + d - 3 < 56
  · rw [dif_pos h, sum_planes]
    refine Finset.sum_congr rfl fun p _ => ?_
    have e : ∀ i : Fin 56, sideBySide x0 x1 x2 x3 ⟨(k : Nat) + d - 3, h.2⟩ ⟨(p : Nat) * 56 + i, by omega⟩
          * x6 (ix3 d (⟨(p : Nat) * 56 + i, by omega⟩ : Fin 168) l)
        = P p ⟨(k : Nat) + d - 3, h.2⟩ i * ∑ t : Fin 7, (if (i : Nat) + 3 = l + t then (1 : EReal) else 0) * w p d t :=
      fun i => congrArg₂ (· * ·) (hS p _ i _ rfl) (hX d p i l _ rfl)
    refine (Finset.sum_congr rfl fun i _ => e i).trans ((band_line _ _ l).trans (Finset.sum_congr rfl fun t _ => congrArg (w p d t * ·) ?_))
    unfold Spec.padded
    by_cases h' : 3 ≤ (l : Nat) + t ∧ (l : Nat) + t - 3 < 56
    · rw [dif_pos h', dif_pos ⟨h, h'⟩]
    · rw [dif_neg h', dif_neg fun hh => h' hh.2]
  · rw [dif_neg h]
    refine (Finset.sum_eq_zero fun p _ => Finset.sum_eq_zero fun t _ => ?_).symm
    unfold Spec.padded
    rw [dif_neg fun hh => h hh.1, mul_zero]

/-- The planes side by side are the three planes. -/
theorem side_eq (X : Fin 384 → Fin 56 → Fin 56 → EReal) (M : Fin 56 → Fin 56 → EReal)
    (hX : ∀ c k l, ∃ r : ℝ, X c k l = (r : EReal)) (hM : ∀ k l, IsNonneg (M k l))
    (h0 : ∀ k l, k0_pay1 x0 x2 x3 (ix2 k l) = M k l)
    (h1 : ∀ (c : Fin 384) (k l : Fin 56) (s : Fin 3136), (s : Nat) = k * 56 + l → x1 (ix3 0 c s) = X c k l)
    (p : Fin 3) (k i : Fin 56) (j : Fin 168) (hj : (j : Nat) = p * 56 + i) :
    sideBySide x0 x1 x2 x3 k j = Spec.planes X M p k i := by
  unfold sideBySide Spec.planes Spec.masked
  obtain ⟨m, hm, em⟩ := hM k i
  match p with
  | 0 =>
    have hj' : (j : Nat) = i := by simpa using hj
    rw [dif_pos (by omega), if_pos (by decide)]
    have hi : (⟨(j : Nat), by omega⟩ : Fin 56) = i := Fin.ext hj'
    choose r hr using hX
    rw [hi, h0, em, AlgebraNorm.word_channels, Ideal.div_coe (by norm_num)]
    have e : ∀ c : Fin 384, ((1 / 384 : ℝ) : EReal) * x1 (ix3 0 c ⟨k * 56 + j, by omega⟩) = ((1 / 384 * r c k i : ℝ) : EReal) :=
      fun c => (congrArg (((1 / 384 : ℝ) : EReal) * ·) ((h1 c k i _ (by show (k : Nat) * 56 + j = _; omega)).trans (hr c k i))).trans (EReal.coe_mul _ _).symm
    refine (congrArg (· * (m : EReal)) (Finset.sum_congr rfl fun c _ => e c)).trans ?_
    simp only [hr, ← EReal.coe_mul, ← AlgebraNorm.coe_sum]
    rw [← Finset.mul_sum, ← Finset.sum_mul]
    congr 1
    ring
  | 1 =>
    have hj' : (j : Nat) = 56 + i := by simpa using hj
    rw [dif_neg (by omega), dif_pos (by omega), if_neg (by decide), if_pos (by decide)]
    have hi : (⟨(j : Nat) - 56, by omega⟩ : Fin 56) = i := Fin.ext (by show (j : Nat) - 56 = i; omega)
    rw [hi, h0, em, word_least, fold_max_mul _ (by exact_mod_cast hm) _ _ ⟨0, Finset.mem_univ _⟩]
    congr 1
    funext c
    exact congrArg (· * (m : EReal)) (h1 c k i _ (by show (k : Nat) * 56 + ((j : Nat) - 56) = _; omega))
  | 2 =>
    have hj' : (j : Nat) = 112 + i := by simpa using hj
    rw [dif_neg (by omega), dif_neg (by omega), if_neg (by decide), if_neg (by decide), h0]
    congr 1
    exact Fin.ext (by show (j : Nat) - 56 - 56 = i; omega)

/-- The gate is a real whatever it is given. -/
theorem gate_real (a : EReal) : ∃ r : ℝ, Spec.gate a = (r : EReal) := by
  unfold Spec.gate
  induction a with
  | bot => exact ⟨0, by
    have h : (1 : EReal) + ⊤ = ⊤ := EReal.coe_add_top 1
    simp [Ideal.div, h]⟩
  | top => exact ⟨1, by simp [Ideal.div]⟩
  | coe a =>
    refine ⟨1 * (1 / (1 + Real.exp (-a))), ?_⟩
    have h : (1 : EReal) + Ideal.exp (-(a : EReal)) = ((1 + Real.exp (-a) : ℝ) : EReal) := by
      rw [← EReal.coe_neg, Ideal.exp_coe, EReal.coe_add, EReal.coe_one]
    rw [h, Ideal.div_coe (by positivity), EReal.coe_mul, EReal.coe_one]

end Cert.AlgebraGate

end
-- ==== Proof.KernelValue.lean ====
/-
  The kernel's result as one function of its arguments, and what the precondition says of them.
-/
module

public import proofs.«01_k».proof.Defs
public import proofs.«01_k».proof.Proof.KernelArray
public import proofs.«01_k».proof.Proof.AlgebraGate
public import proofs.«01_k».proof.Proof.Gen.Pre_finite_inputs

@[expose] public section

set_option maxRecDepth 16384

noncomputable section

namespace Cert.KernelValue

open Idealize.ShloMosaic Idealize.ShloMosaic.TcCoe Idealize.SL.Sem Cert.KernelIdeal Cert.KernelIdeal.Gen Cert.KernelBlock Cert.KernelArray
open Idealize.ShloMosaic.Pipeline (Dat)
open AlgebraGate (IsNonneg)

/-- The line of a pixel in the image laid flat. -/
def lineOf (s : Fin 3136) : Fin 56 := ⟨(s : Nat) / 56, by omega⟩

/-- The column of a pixel in the image laid flat. -/
def columnOf (s : Fin 3136) : Fin 56 := ⟨(s : Nat) % 56, by omega⟩

/-- A pixel stands at its line times 56 plus its column. -/
theorem flat_pixel (s : Fin 3136) : (s : Nat) = lineOf s * 56 + columnOf s := by
  show (s : Nat) = (s : Nat) / 56 * 56 + (s : Nat) % 56
  omega

variable (m : (ℓ : Loc nD τ sig) → Buf (Elt Ideal) ℓ) (c : Dev nD)

/-- The result both programs are to have: entry, channel and pixel of the image laid flat. -/
def value (b : Fin 8) (ch : Fin 384) (s : Fin 3136) : EReal :=
  Spec.result (Spec.gated (argX m c b) (Spec.resized (argM m c b)) (argW m c) ch) (argG m c ch) (argB m c ch) (lineOf s) (columnOf s)

/-- A value below the word of infinity in magnitude is a real. -/
theorem real_of_abs (a : EReal) (h : Ideal.cmp .olt (max a (-a)) (Ideal.ofBits .f32 0x7F800000#32) = 1#1) : ∃ r : ℝ, a = (r : EReal) := by
  have w : Ideal.ofBits .f32 0x7F800000#32 = (⊤ : EReal) := by simp [Ideal.ofBits, Ideal.ieee]
  rw [w] at h
  induction a with
  | bot => simp [Ideal.cmp] at h
  | top => simp [Ideal.cmp] at h
  | coe r => exact ⟨r, rfl⟩

/-- A value not below zero and below the word of infinity is a real that is not negative. -/
theorem nonneg_of_bounds (a : EReal) (h : Ideal.cmp .oge a (Ideal.ofBits .f32 0x00000000#32) &&& Ideal.cmp .olt a (Ideal.ofBits .f32 0x7F800000#32) = 1#1) :
    IsNonneg a := by
  have w : Ideal.ofBits .f32 0x7F800000#32 = (⊤ : EReal) := by simp [Ideal.ofBits, Ideal.ieee]
  rw [w, Ideal.ofBits_zero_f32] at h
  induction a with
  | bot => simp [Ideal.cmp] at h
  | top => simp [Ideal.cmp] at h
  | coe r =>
    refine ⟨r, ?_, rfl⟩
    by_contra hr
    simp [Ideal.cmp, hr] at h

/-- Under the precondition the image is real. -/
theorem image_real (h : Cert.Pre_KernelIdeal_finite_inputs m) (b : Fin 8) (ch : Fin 384) (k l : Fin 56) :
    ∃ r : ℝ, argX m c b ch k l = (r : EReal) :=
  real_of_abs _ (congrFun (h c).1 (ix4 b ch k l))

/-- Under the precondition the mask is real and not negative. -/
theorem mask_nonneg (h : Cert.Pre_KernelIdeal_finite_inputs m) (b : Fin 8) (i j : Fin 224) : IsNonneg (argM m c b i j) :=
  nonneg_of_bounds _ (congrFun (h c).2.1 (ix3 b i j))

/-- Under the precondition the scale is real. -/
theorem scale_real (h : Cert.Pre_KernelIdeal_finite_inputs m) (ch : Fin 384) : ∃ r : ℝ, argG m c ch = (r : EReal) :=
  real_of_abs _ (congrFun (h c).2.2 (ix1 ch))

/-- The shrunk mask of a grid point is that of its batch entry. -/
theorem mask_block (t : Fin cfg0.N) (b : Fin 8) (hb : (b : Nat) = t) (k l : Fin 56) :
    k0_pay1 (iblk m c 0 t) (iblk m c 2 t) (iblk m c 3 t) (ix2 k l) = Spec.resized (argM m c b) k l := by
  refine (mask_apply (iblk m c 0 t) (iblk m c 2 t) (iblk m c 3 t) k l).trans ?_
  unfold Spec.resized
  refine Finset.sum_congr rfl fun j _ => congrArg₂ (· * ·) (Finset.sum_congr rfl fun i _ => congrArg₂ (· * ·) ?_ ?_) ?_
  · exact (block2 m c t k i).trans (V_rows m c i k)
  · exact block0 m c t b hb i j
  · exact (block3 m c t j l).trans (V_columns m c j l)

/-- The row of gates of a grid point: the shrunk mask times the gate of the convolution. -/
theorem gate_block (h : Cert.Pre_KernelIdeal_finite_inputs m) (t : Fin cfg0.N) (b : Fin 8) (hb : (b : Nat) = t)
    (k l : Fin 56) (s : Fin 3136) (hs : (s : Nat) = k * 56 + l) :
    k0_pay138 (iblk m c 0 t) (iblk m c 1 t) (iblk m c 2 t) (iblk m c 3 t) (iblk m c 4 t) (iblk m c 5 t) (iblk m c 6 t) (ix2 0 s)
      = Spec.resized (argM m c b) k l
        * Spec.gate (Spec.attention (argW m c) (Spec.planes (argX m c b) (Spec.resized (argM m c b))) k l) := by
  have h1 : ∀ (ch : Fin 384) (k l : Fin 56) (s : Fin 3136), (s : Nat) = k * 56 + l →
      (iblk m c 1 t : Vec Ideal S1x384x3136 .f32) (ix3 0 ch s) = argX m c b ch k l :=
    fun ch k l s hs => (block1 m c t b hb ch s).trans (V_image m c b ch k l s hs)
  have e := AlgebraGate.taps_eq (iblk m c 0 t) (iblk m c 1 t) (iblk m c 2 t) (iblk m c 3 t) (iblk m c 6 t)
    (Spec.planes (argX m c b) (Spec.resized (argM m c b))) (argW m c)
    (fun p k i j hj => AlgebraGate.side_eq _ _ _ _ (argX m c b) (Spec.resized (argM m c b)) (image_real m c h b)
      (AlgebraGate.resized_nonneg _ (mask_nonneg m c h b)) (mask_block m c t b hb) h1 p k i j hj)
    (fun d p i l j hj => (block6 m c t d j l).trans (V_bands m c d p i l j hj)) k l
  refine (gate_row (iblk m c 0 t) (iblk m c 1 t) (iblk m c 2 t) (iblk m c 3 t) (iblk m c 4 t) (iblk m c 5 t) (iblk m c 6 t) k l s hs).trans ?_
  rw [e, sub_eq_add_neg, zero_add]
  exact congrArg₂ (· * ·) (mask_block m c t b hb k l) rfl

/-- The gated image is real. -/
theorem gated_real (h : Cert.Pre_KernelIdeal_finite_inputs m) (b : Fin 8) (ch : Fin 384) (k l : Fin 56) :
    ∃ r : ℝ, Spec.gated (argX m c b) (Spec.resized (argM m c b)) (argW m c) ch k l = (r : EReal) := by
  obtain ⟨x, hx⟩ := image_real m c h b ch k l
  obtain ⟨y, _, hy⟩ := AlgebraGate.resized_nonneg _ (mask_nonneg m c h b) k l
  obtain ⟨z, hz⟩ := AlgebraGate.gate_real (Spec.attention (argW m c) (Spec.planes (argX m c b) (Spec.resized (argM m c b))) k l)
  refine ⟨x * y * z, ?_⟩
  unfold Spec.gated Spec.masked
  rw [hx, hy, hz, EReal.coe_mul, EReal.coe_mul]

/-- A channel of a block of the image times a row of gates. -/
def gatedRow (x : Vec Ideal S1x384x3136 .f32) (r : FVec Ideal S1x3136 .f32) (ch : Fin 384) (s : Fin 3136) : EReal :=
  x (ix3 0 ch s) * r (ix2 0 s)

/-- A channel times a row of gates, from the two factors. -/
theorem gatedRow_eq (x : Vec Ideal S1x384x3136 .f32) (r : FVec Ideal S1x3136 .f32) (ch : Fin 384) (s : Fin 3136) (a b : EReal)
    (ha : x (ix3 0 ch s) = a) (hb : r (ix2 0 s) = b) : gatedRow x r ch s = a * b := congrArg₂ (· * ·) ha hb

/-- What a grid point writes is the result of its batch entry. -/
theorem block_value (h : Cert.Pre_KernelIdeal_finite_inputs m) (t : Fin cfg0.N) (b : Fin 8) (hb : (b : Nat) = t) (ch : Fin 384) (s : Fin 3136) :
    (out0_7 (iblk m c 0 t) (iblk m c 1 t) (iblk m c 2 t) (iblk m c 3 t) (iblk m c 4 t) (iblk m c 5 t) (iblk m c 6 t)
      : Vec Ideal S1x384x3136 .f32) (ix3 0 ch s) = value m c b ch s := by
  choose o ho using gated_real m c h b ch
  obtain ⟨g, hg⟩ := scale_real m c h ch
  have hrow : ∀ (k l : Fin 56) (s : Fin 3136), (s : Nat) = k * 56 + l →
      gatedRow (iblk m c 1 t)
        (k0_pay138 (iblk m c 0 t) (iblk m c 1 t) (iblk m c 2 t) (iblk m c 3 t) (iblk m c 4 t) (iblk m c 5 t) (iblk m c 6 t)) ch s
        = (o k l : EReal) := by
    intro k l s hs
    refine (gatedRow_eq _ _ ch s _ _ ((block1 m c t b hb ch s).trans (V_image m c b ch k l s hs)) (gate_block m c h t b hb k l s hs)).trans ?_
    rw [← ho]
    unfold Spec.gated Spec.masked
    exact (mul_assoc _ _ _).symm
  refine (out_apply (iblk m c 0 t) (iblk m c 1 t) (iblk m c 2 t) (iblk m c 3 t) (iblk m c 4 t) (iblk m c 5 t) (iblk m c 6 t) ch s).trans ?_
  have e4 : (iblk m c 4 t : Vec Ideal S384x1 .f32) (ix2 ch 0) = (g : EReal) * Ideal.ofBits .f32 0x41980000#32 :=
    (block4 m c t ch).trans ((V_scale m c ch).trans (by rw [hg]))
  have e5 : (iblk m c 5 t : Vec Ideal S384x1 .f32) (ix2 ch 0) = argB m c ch * Ideal.ofBits .f32 0x41980000#32 :=
    (block5 m c t ch).trans (V_shift m c ch)
  refine (congrArg₂ (fun g b => rowOut _ g b s) e4 e5).trans ?_
  refine (AlgebraNorm.row_eq o g (argB m c ch) _ hrow (lineOf s) (columnOf s) s (flat_pixel s)).trans ?_
  unfold value
  rw [hg]
  congr 1
  funext k l
  exact (ho k l).symm

/-- The array the kernel returns. -/
theorem final (h : Cert.Pre_KernelIdeal_finite_inputs m) :
    (dats m 0 c).arrAt 7 cfg0.N = (fun i : S8x384x3136.Idx => value m c (i 0) (i 1) (i 2)) :=
  final_of_blocks m c (value m c) fun t b hb ch s => block_value m c h t b hb ch s

end Cert.KernelValue

end
-- ==== Proof.ReferenceRead.lean ====
/-
  The reference, read at an index of its result: the operations of its chain give the plain functions of `Spec`.
-/
module

public import proofs.«01_k».proof.Proof.Gen.ReferenceIdeal.Run
public import proofs.«01_k».proof.Proof.Spec
public import Idealize.ShloMosaic.Lib.Pointwise
public import Idealize.ShloMosaic.Lib.IdealHost
public import Idealize.ShloMosaic.Lib.Tactic
public import Idealize.ShloMosaic.Lib.Tactic.CleanTypes

@[expose] public section

set_option maxRecDepth 16384

noncomputable section

namespace Cert.ReferenceRead

open Idealize.ShloMosaic Idealize.ShloMosaic.StableHlo Cert.ReferenceIdeal Cert.ReferenceIdeal.Gen Cert.ReferenceIdeal.Value

/-- The convolution's contraction: planes, tap rows and tap columns at once. -/
abbrev dd := dot_S3x7x7_S8x3x7x7x56x56_S8x56x56_012_123_n_045_n_n

/-- A contraction index from its plane, tap row and tap column. -/
def kidx (c : Fin 3) (i j : Fin 7) : dd.contr.Idx :=
  fun (p : Fin 3) => match p with
    | ⟨0, _⟩ => c
    | ⟨1, _⟩ => i
    | ⟨2, _⟩ => j

/-- The contraction indices are the triples of a plane, a tap row and a tap column. -/
def kequiv : Fin 3 × Fin 7 × Fin 7 ≃ dd.contr.Idx where
  toFun k := kidx k.1 k.2.1 k.2.2
  invFun q := ((q (0 : Fin 3) : Fin 3), (q (1 : Fin 3) : Fin 7), (q (2 : Fin 3) : Fin 7))
  left_inv k := rfl
  right_inv q := funext fun (p : Fin 3) => match p with
    | ⟨0, _⟩ => rfl
    | ⟨1, _⟩ => rfl
    | ⟨2, _⟩ => rfl

/-- The filter entry a contraction index reads. -/
theorem lhs_at (b : Fin 8) (k l : Fin 56) (c : Fin 3) (i j : Fin 7) :
    dd.lhsIdx (ix3 b k l) (kidx c i j) = ix3 c i j := by
  funext (a : Fin 3)
  match a with
    | ⟨0, _⟩ => rfl
    | ⟨1, _⟩ => rfl
    | ⟨2, _⟩ => rfl

/-- The window entry a contraction index reads. -/
theorem rhs_at (b : Fin 8) (k l : Fin 56) (c : Fin 3) (i j : Fin 7) :
    dd.rhsIdx (ix3 b k l) (kidx c i j) = ix6 b c i j k l := by
  funext (a : Fin 6)
  match a with
    | ⟨0, _⟩ => rfl
    | ⟨1, _⟩ => rfl
    | ⟨2, _⟩ => rfl
    | ⟨3, _⟩ => rfl
    | ⟨4, _⟩ => rfl
    | ⟨5, _⟩ => rfl

/-- The contraction as a triple sum. -/
theorem conv_apply (lhs : S3x7x7.Idx → EReal) (rhs : S8x3x7x7x56x56.Idx → EReal) (acc : S8x56x56.Idx → EReal)
    (b : Fin 8) (k l : Fin 56) :
    Ideal.matmul dd lhs rhs acc (ix3 b k l)
      = acc (ix3 b k l) + ∑ c : Fin 3, ∑ i : Fin 7, ∑ j : Fin 7, lhs (ix3 c i j) * rhs (ix6 b c i j k l) := by
  unfold Ideal.matmul
  rw [← Fintype.sum_equiv kequiv (fun q => lhs (ix3 q.1 q.2.1 q.2.2) * rhs (ix6 b q.1 q.2.1 q.2.2 k l)) _
    (fun q => by
      show _ = lhs (dd.lhsIdx (ix3 b k l) (kidx q.1 q.2.1 q.2.2)) * rhs (dd.rhsIdx (ix3 b k l) (kidx q.1 q.2.1 q.2.2))
      rw [lhs_at, rhs_at])]
  rw [Fintype.sum_prod_type]
  simp only [Fintype.sum_prod_type]

variable (V0 : Valuation τ sig (Elt Ideal))

/-- The stacked column windows: window `i` is the padded planes moved by `i` columns. -/
theorem cols_apply (b : Fin 8) (c : Fin 3) (i : Fin 7) (k : Fin 62) (l : Fin 56) :
    res_main_v28 V0 (ix5 b c i k l) = res_main_v13 V0 (ix4 b c k ⟨l + i, by omega⟩) := by
  unfold res_main_v28
  clean_types
  fin_vals i with hi
  all_goals pointwise [hi]
  all_goals simp only [hi, Nat.reduceSub, Nat.reduceLT, ↓reduceDIte, Nat.add_comm, Nat.add_zero, Nat.zero_add]

/-- The image argument of one batch entry. -/
def argX (b : Fin 8) (c : Fin 384) (k l : Fin 56) : EReal := V0 (Proc.tc.devRef main_arg0) (ix4 b c k l)

/-- The mask argument of one batch entry. -/
def argM (b : Fin 8) (i j : Fin 224) : EReal := V0 (Proc.tc.devRef main_arg1) (ix3 b i j)

/-- The filter argument. -/
def argW (c : Fin 3) (i j : Fin 7) : EReal := V0 (Proc.tc.devRef main_arg2) (ix4 0 c i j)

/-- The scale argument. -/
def argG (c : Fin 384) : EReal := V0 (Proc.tc.devRef main_arg3) (ix1 c)

/-- The shift argument. -/
def argB (c : Fin 384) : EReal := V0 (Proc.tc.devRef main_arg4) (ix1 c)

/-- The first table of the reference holds the weights. -/
theorem table0 (i : Fin 224) (k : Fin 56) : Ideal.ofBits FTy.f32 (lit0 (S224x56.rowMajor (ix2 i k))) = Tables.weight i k := by
  have h : ((S224x56.rowMajor (ix2 i k) : Fin _) : Nat) = i * 56 + k := rowMajor_val2 _ 56 rfl
  show Ideal.ofBits FTy.f32 (lit0t (S224x56.rowMajor (ix2 i k) : Fin _).val) = _
  rw [h, Tables.reference_first]
  exact Tables.column_table i k

/-- The second table of the reference holds the weights. -/
theorem table1 (i : Fin 224) (k : Fin 56) : Ideal.ofBits FTy.f32 (lit1 (S224x56.rowMajor (ix2 i k))) = Tables.weight i k := by
  have h : ((S224x56.rowMajor (ix2 i k) : Fin _) : Nat) = i * 56 + k := rowMajor_val2 _ 56 rfl
  show Ideal.ofBits FTy.f32 (lit1t (S224x56.rowMajor (ix2 i k) : Fin _).val) = _
  rw [h, Tables.reference_second]
  exact Tables.column_table i k

/-- The shrunk mask. -/
theorem mask_apply (b : Fin 8) (u : Fin 1) (k l : Fin 56) :
    res_main_v3 V0 (ix4 b u k l) = Spec.resized (argM V0 b) k l := by
  unfold res_main_v3
  clean_types
  pointwise
  exact Finset.sum_congr rfl fun j _ => congrArg₂ (· * ·)
    (Finset.sum_congr rfl fun i _ => congrArg₂ (· * ·) (table0 i k) rfl) (table1 j l)

/-- The masked image. -/
theorem masked_apply (b : Fin 8) (c : Fin 384) (k l : Fin 56) :
    res_main_v5 V0 (ix4 b c k l) = Spec.masked (argX V0 b) (Spec.resized (argM V0 b)) c k l := by
  unfold res_main_v5
  clean_types
  pointwise
  rw [mask_apply]
  rfl

/-- The padded planes. -/
theorem padded_apply (b : Fin 8) (c : Fin 3) (k l : Fin 62) :
    res_main_v13 V0 (ix4 b c k l) = Spec.padded (Spec.planes (argX V0 b) (Spec.resized (argM V0 b)) c) k l := by
  unfold res_main_v13
  clean_types
  pointwise
  simp only [masked_apply, mask_apply]
  unfold Spec.padded
  congr 1
  funext _
  show (((0#32 : BitVec 32).toInt : ℝ) : EReal) = 0
  simp

/-- The gated image. -/
theorem gated_apply (b : Fin 8) (c : Fin 384) (k l : Fin 56) : res_main_v54 V0 (ix4 b c k l)
    = Spec.gated (argX V0 b) (Spec.resized (argM V0 b)) (argW V0) c k l := by
  unfold res_main_v54
  clean_types
  pointwise
  rw [conv_apply, zero_add, masked_apply]
  unfold Spec.gated Spec.gate Spec.attention
  congr 5
  refine Finset.sum_congr rfl fun c _ => Finset.sum_congr rfl fun i _ => Finset.sum_congr rfl fun j _ => ?_
  congr 1
  · pointwise
    rfl
  have h : ∀ k1 k2 : Fin 62, (k1 : Nat) = k2 → res_main_v28 V0 (ix5 b c j k1 l)
      = Spec.padded (Spec.planes (argX V0 b) (Spec.resized (argM V0 b)) c) k2 ⟨(l : Nat) + j, by omega⟩ := by
    intro k1 k2 hk
    rw [cols_apply, padded_apply, Fin.ext hk]
  fin_vals i with hi
  all_goals pointwise [hi]
  all_goals try simp only [hi, Nat.reduceSub, Nat.reduceLT, ↓reduceDIte]
  all_goals exact h _ _ (by first | rfl | exact Nat.add_comm _ _)

/-- The divisor of the variance is the number of pixels. -/
theorem count_word : Ideal.ofBits .f32 1162084352#32 - FloatOps.sitofp .f32 (0#32) = Ideal.ofBits .f32 0x45440000#32 := by
  show Ideal.ofBits .f32 1162084352#32 - (((0#32 : BitVec 32).toInt : ℝ) : EReal) = _
  simp

/-- The number of pixels is positive. -/
theorem count_pos : (0 : EReal) < Ideal.ofBits .f32 0x45440000#32 := by
  simp [Ideal.ofBits, Ideal.ieee]
  rw [← EReal.coe_mul, EReal.coe_pos]
  norm_num

/-- A channel's distance from its mean. -/
theorem centred_apply (b : Fin 8) (c : Fin 384) (k l : Fin 56) : res_main_call1_v5 V0 (ix4 b c k l)
    = Spec.gated (argX V0 b) (Spec.resized (argM V0 b)) (argW V0) c k l
      - Spec.mean (Spec.gated (argX V0 b) (Spec.resized (argM V0 b)) (argW V0) c) := by
  unfold res_main_call1_v5
  clean_types
  pointwise
  simp only [gated_apply]
  rfl

/-- One round. -/
theorem normed_apply (b : Fin 8) (c : Fin 384) (k l : Fin 56) : res_main_v72 V0 (ix4 b c k l)
    = Spec.normed (Spec.gated (argX V0 b) (Spec.resized (argM V0 b)) (argW V0) c) (argG V0 c) (argB V0 c) k l := by
  unfold res_main_v72 res_main_call1_v8
  clean_types
  pointwise
  simp only [gated_apply, centred_apply, count_word, if_pos count_pos]
  rfl

/-- The result, whose last two axes are one: column `l` of row `k` stands at `56 k + l`. -/
theorem result_apply (b : Fin 8) (c : Fin 384) (k l : Fin 56) (s : Fin 3136) (hs : (s : Nat) = k * 56 + l) (v : S8x384x56x56.Idx → EReal) :
    shapeCast S8x384x3136 v shapeCasts_S8x384x56x56_S8x384x3136 (ix3 b c s) = v (ix4 b c k l) := by
  pointwise
  rw [show (⟨(s : Nat) / 56, by omega⟩ : Fin 56) = k from Fin.ext (by show (s : Nat) / 56 = k; omega),
    show (⟨(s : Nat) % 56, by omega⟩ : Fin 56) = l from Fin.ext (by show (s : Nat) % 56 = l; omega)]

/-- The nineteen rounds added up and negative values cut to zero. -/
theorem final_apply (b : Fin 8) (c : Fin 384) (k l : Fin 56) (s : Fin 3136) (hs : (s : Nat) = k * 56 + l) :
    shapeCast S8x384x3136 (maximumf (addf (addf (addf (addf (addf (addf (addf (addf (addf (addf (addf (addf (addf (addf (addf (addf (addf (addf
      (res_main_v72 V0) (res_main_v72 V0)) (res_main_v72 V0)) (res_main_v72 V0)) (res_main_v72 V0)) (res_main_v72 V0)) (res_main_v72 V0))
      (res_main_v72 V0)) (res_main_v72 V0)) (res_main_v72 V0)) (res_main_v72 V0)) (res_main_v72 V0)) (res_main_v72 V0)) (res_main_v72 V0))
      (res_main_v72 V0)) (res_main_v72 V0)) (res_main_v72 V0)) (res_main_v72 V0)) (res_main_v72 V0))
      (broadcastInDim S8x384x56x56 ![] bcast_S_S8x384x56x56 (constant (F := Ideal) S_ .f32 0x00000000#32)))
      shapeCasts_S8x384x56x56_S8x384x3136 (ix3 b c s)
      = Spec.result (Spec.gated (argX V0 b) (Spec.resized (argM V0 b)) (argW V0) c) (argG V0 c) (argB V0 c) k l := by
  rw [result_apply b c k l s hs]
  unfold Spec.result
  rw [← normed_apply, ← Ideal.ofBits_zero_f32]
  rfl

end Cert.ReferenceRead

end
-- ==== Proof.lean ====
/-
  The certificate: the five claims about the sixth version of the kernel. The frames come from the runs; the
  two named constants are the reciprocals they stand for; and, at exact arithmetic, the kernel and the reference
  end with the same array, `KernelValue.value` of the arguments.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite_inputs
public import proofs.«01_k».proof.Proof.KernelValue
public import proofs.«01_k».proof.Proof.ReferenceRead
public import Idealize.ShloMosaic.Adequacy
public import Idealize.ShloMosaic.Init

@[expose] public section

set_option maxRecDepth 16384

noncomputable section

namespace Cert.Proof

open Idealize.ShloMosaic Idealize.SL.Sem

/-- The reference runs, keeps its arguments and leaves every semaphore at zero. -/
theorem reference_frame : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- From agreeing arguments that meet the precondition, the kernel and the reference end with the same array. -/
theorem same_result : Cert.algebraic_KernelIdeal_ReferenceIdeal_pre_finite_inputs := by
  intro m ρ m' ρ' hpre hag
  refine ⟨fun c => (fun i : Cert.KernelIdeal.S8x384x3136.Idx => KernelValue.value m c (i 0) (i 1) (i 2)), ?_, ?_⟩
  · exact (θ_run Cert.KernelIdeal.defs _ _).mono
      (fun r h c => ⟨(h c).1.trans (KernelValue.final m c hpre), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    have key : ∀ (b : Fin 8) (ch : Fin 384) (s : Fin 3136), _ = KernelValue.value m c b ch s := fun b ch s => by
      refine (ReferenceRead.final_apply (StableHlo.launchContents m' c) b ch (KernelValue.lineOf s) (KernelValue.columnOf s) s
        (KernelValue.flat_pixel s)).trans ?_
      have hX : ReferenceRead.argX (StableHlo.launchContents m' c) b = KernelArray.argX m c b := by
        funext ch k l
        exact congrFun (hag c).1 (ix4 b ch k l)
      have hM : ReferenceRead.argM (StableHlo.launchContents m' c) b = KernelArray.argM m c b := by
        funext i j
        exact congrFun (hag c).2.1 (ix3 b i j)
      have hW : ReferenceRead.argW (StableHlo.launchContents m' c) = KernelArray.argW m c := by
        funext p i j
        exact congrFun (hag c).2.2.1 (ix4 0 p i j)
      have hG : ReferenceRead.argG (StableHlo.launchContents m' c) ch = KernelArray.argG m c ch :=
        congrFun (hag c).2.2.2.1 (ix1 ch)
      have hB : ReferenceRead.argB (StableHlo.launchContents m' c) ch = KernelArray.argB m c ch :=
        congrFun (hag c).2.2.2.2 (ix1 ch)
      unfold KernelValue.value
      rw [hX, hM, hW, hG, hB]
    refine funext fun (i : Cert.ReferenceIdeal.S8x384x3136.Idx) => ?_
    have hi : i = ix3 (i 0 : Fin 8) (i 1 : Fin 384) (i 2 : Fin 3136) := by
      funext a
      match a with
      | ⟨0, _⟩ => rfl
      | ⟨1, _⟩ => rfl
      | ⟨2, _⟩ => rfl
    exact (congrArg _ hi).trans (key (i 0) (i 1) (i 2))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  ⟨IdealRules.named_const.statement Cert.KernelIdeal.κ "inv_c" .f32 0x3B2AAAAB#32 ((1 / 384 : ℝ) : EReal) rfl,
    IdealRules.named_const.statement Cert.KernelIdeal.κ "inv_hw" .f32 0x39A72F05#32 ((1 / 3136 : ℝ) : EReal) rfl⟩,
  same_result⟩

end Cert.Proof

end
